-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x8 : Shape := ⟨3, ![16, 4096, 8]⟩
abbrev S64x7 : Shape := ⟨2, ![64, 7]⟩
abbrev S2 : Shape := ⟨1, ![2]⟩
abbrev S16x8x4096 : Shape := ⟨3, ![16, 8, 4096]⟩
abbrev S7x64 : Shape := ⟨2, ![7, 64]⟩
abbrev S1x2 : Shape := ⟨2, ![1, 2]⟩
abbrev S16x64x7 : Shape := ⟨3, ![16, 64, 7]⟩
abbrev S4x8x4096 : Shape := ⟨3, ![4, 8, 4096]⟩
abbrev S4x64x7 : Shape := ⟨3, ![4, 64, 7]⟩
abbrev S1x8x4096 : Shape := ⟨3, ![1, 8, 4096]⟩
abbrev S8x4096 : Shape := ⟨2, ![8, 4096]⟩
abbrev S1x4096 : Shape := ⟨2, ![1, 4096]⟩
abbrev S4096 : Shape := ⟨1, ![4096]⟩
abbrev S1x1x4096 : Shape := ⟨3, ![1, 1, 4096]⟩
abbrev S1 : Shape := ⟨1, ![1]⟩
abbrev S1x1x1 : Shape := ⟨3, ![1, 1, 1]⟩
abbrev S1x1 : Shape := ⟨2, ![1, 1]⟩
abbrev S64x1 : Shape := ⟨2, ![64, 1]⟩
abbrev S64x4096 : Shape := ⟨2, ![64, 4096]⟩
abbrev S64x128 : Shape := ⟨2, ![64, 128]⟩
abbrev S64 : Shape := ⟨1, ![64]⟩
abbrev S1x64x7 : Shape := ⟨3, ![1, 64, 7]⟩
abbrev S_ : Shape := ⟨0, ![]⟩
abbrev S16x64 : Shape := ⟨2, ![16, 64]⟩
abbrev S16x64x1 : Shape := ⟨3, ![16, 64, 1]⟩
abbrev S16x448 : Shape := ⟨2, ![16, 448]⟩

abbrev nBuf : Space → Nat
  | .hbm => 39
  | .vmem => 6
  | .smem => 0
  | _ => 0

abbrev bufTy : (tb : Table) → Fin (tcTables nBuf tb) → BufTy
  | .hbm, ⟨0, _⟩ => ⟨S16x4096x8, .f32⟩
  | .hbm, ⟨1, _⟩ => ⟨S64x7, .f32⟩
  | .hbm, ⟨2, _⟩ => ⟨S2, .f32⟩
  | .hbm, ⟨3, _⟩ => ⟨S16x8x4096, .f32⟩
  | .hbm, ⟨4, _⟩ => ⟨S7x64, .f32⟩
  | .hbm, ⟨5, _⟩ => ⟨S1x2, .f32⟩
  | .hbm, ⟨6, _⟩ => ⟨S16x64x7, .f32⟩
  | .hbm, ⟨7, _⟩ => ⟨S_, .f32⟩
  | .hbm, ⟨8, _⟩ => ⟨S_, .f32⟩
  | .hbm, ⟨9, _⟩ => ⟨S16x64x7, .f32⟩
  | .hbm, ⟨10, _⟩ => ⟨S16x64x7, .f32⟩
  | .hbm, ⟨11, _⟩ => ⟨S_, .f32⟩
  | .hbm, ⟨12, _⟩ => ⟨S16x64, .f32⟩
  | .hbm, ⟨13, _⟩ => ⟨S16x64x1, .f32⟩
  | .hbm, ⟨14, _⟩ => ⟨S16x64x1, .f32⟩
  | .hbm, ⟨15, _⟩ => ⟨S_, .f32⟩
  | .hbm, ⟨16, _⟩ => ⟨S16x64x1, .f32⟩
  | .hbm, ⟨17, _⟩ => ⟨S16x64x1, .f32⟩
  | .hbm, ⟨18, _⟩ => ⟨S16x64x1, .f32⟩
  | .hbm, ⟨19, _⟩ => ⟨S16x64x7, .f32⟩
  | .hbm, ⟨20, _⟩ => ⟨S16x64x7, .f32⟩
  | .hbm, ⟨21, _⟩ => ⟨S16x64x7, .f32⟩
  | .hbm, ⟨22, _⟩ => ⟨S16x64x7, .f32⟩
  | .hbm, ⟨23, _⟩ => ⟨S16x64x7, .f32⟩
  | .hbm, ⟨24, _⟩ => ⟨S_, .f32⟩
  | .hbm, ⟨25, _⟩ => ⟨S16x64, .f32⟩
  | .hbm, ⟨26, _⟩ => ⟨S16x64x1, .f32⟩
  | .hbm, ⟨27, _⟩ => ⟨S_, .f32⟩
  | .hbm, ⟨28, _⟩ => ⟨S16x64x7, .f32⟩
  | .hbm, ⟨29, _⟩ => ⟨S16x64x7, .f32⟩
  | .hbm, ⟨30, _⟩ => ⟨S_, .f32⟩
  | .hbm, ⟨31, _⟩ => ⟨S16x64x1, .f32⟩
  | .hbm, ⟨32, _⟩ => ⟨S16x64x1, .f32⟩
  | .hbm, ⟨33, _⟩ => ⟨S_, .f32⟩
  | .hbm, ⟨34, _⟩ => ⟨S16x64x1, .f32⟩
  | .hbm, ⟨35, _⟩ => ⟨S16x64x1, .f32⟩
  | .hbm, ⟨36, _⟩ => ⟨S16x64x7, .f32⟩
  | .hbm, ⟨37, _⟩ => ⟨S16x64x7, .f32⟩
  | .hbm, ⟨38, _⟩ => ⟨S16x448, .f32⟩
  | .local _ .vmem, ⟨0, _⟩ => ⟨S4x8x4096, .f32⟩
  | .local _ .vmem, ⟨1, _⟩ => ⟨S4x8x4096, .f32⟩
  | .local _ .vmem, ⟨2, _⟩ => ⟨S7x64, .f32⟩
  | .local _ .vmem, ⟨3, _⟩ => ⟨S1x2, .f32⟩
  | .local _ .vmem, ⟨4, _⟩ => ⟨S4x64x7, .f32⟩
  | .local _ .vmem, ⟨5, _⟩ => ⟨S4x64x7, .f32⟩
  | _, _ => ⟨S16x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x4096x8 : Shape := ⟨3, ![16, 4096, 8]⟩
abbrev S64x7 : Shape := ⟨2, ![64, 7]⟩
abbrev S2 : Shape := ⟨1, ![2]⟩
abbrev S16x4096x1 : Shape := ⟨3, ![16, 4096, 1]⟩
abbrev S16x4096 : Shape := ⟨2, ![16, 4096]⟩
abbrev S16x4096x7 : Shape := ⟨3, ![16, 4096, 7]⟩
abbrev S_ : Shape := ⟨0, ![]⟩
abbrev S1 : Shape := ⟨1, ![1]⟩
abbrev S1x1x1 : Shape := ⟨3, ![1, 1, 1]⟩
abbrev S16x4096x1x7 : Shape := ⟨4, ![16, 4096, 1, 7]⟩
abbrev S1x1x64x7 : Shape := ⟨4, ![1, 1, 64, 7]⟩
abbrev S16x4096x64x7 : Shape := ⟨4, ![16, 4096, 64, 7]⟩
abbrev S16x4096x64 : Shape := ⟨3, ![16, 4096, 64]⟩
abbrev S16x4096x64x1 : Shape := ⟨4, ![16, 4096, 64, 1]⟩
abbrev S16x4096x1x1 : Shape := ⟨4, ![16, 4096, 1, 1]⟩
abbrev S16x64x7 : Shape := ⟨3, ![16, 64, 7]⟩
abbrev S16x64 : Shape := ⟨2, ![16, 64]⟩
abbrev S16x64x1 : Shape := ⟨3, ![16, 64, 1]⟩
abbrev S16x448 : Shape := ⟨2, ![16, 448]⟩

abbrev nBuf : Space → Nat
  | .hbm => 128
  | .vmem => 0
  | .smem => 0
  | _ => 0

abbrev bufTy : (tb : Table) → Fin (tcTables nBuf tb) → BufTy
  | .hbm, ⟨0, _⟩ => ⟨S16x4096x8, .f32⟩
  | .hbm, ⟨1, _⟩ => ⟨S64x7, .f32⟩
  | .hbm, ⟨2, _⟩ => ⟨S2, .f32⟩
  | .hbm, ⟨3, _⟩ => ⟨S16x4096x1, .f32⟩
  | .hbm, ⟨4, _⟩ => ⟨S16x4096, .f32⟩
  | .hbm, ⟨5, _⟩ => ⟨S16x4096x7, .f32⟩
  | .hbm, ⟨6, _⟩ => ⟨S16x4096, .i32⟩
  | .hbm, ⟨7, _⟩ => ⟨S_, .i32⟩
  | .hbm, ⟨8, _⟩ => ⟨S16x4096, .i32⟩
  | .hbm, ⟨9, _⟩ => ⟨S16x4096, .i1⟩
  | .hbm, ⟨10, _⟩ => ⟨S_, .f32⟩
  | .hbm, ⟨11, _⟩ => ⟨S16x4096x8, .f32⟩
  | .hbm, ⟨12, _⟩ => ⟨S16x4096x8, .i1⟩
  | .hbm, ⟨13, _⟩ => ⟨S16x4096x8, .i32⟩
  | .hbm, ⟨14, _⟩ => ⟨S_, .i32⟩
  | .hbm, ⟨15, _⟩ => ⟨S16x4096, .i32⟩
  | .hbm, ⟨16, _⟩ => ⟨S_, .i32⟩
  | .hbm, ⟨17, _⟩ => ⟨S16x4096, .i32⟩
  | .hbm, ⟨18, _⟩ => ⟨S16x4096, .i1⟩
  | .hbm, ⟨19, _⟩ => ⟨S16x4096, .i1⟩
  | .hbm, ⟨20, _⟩ => ⟨S16x4096, .f32⟩
  | .hbm, ⟨21, _⟩ => ⟨S_, .f32⟩
  | .hbm, ⟨22, _⟩ => ⟨S_, .f32⟩
  | .hbm, ⟨23, _⟩ => ⟨S16x4096, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S16x4096, .i32⟩
  | .hbm, ⟨28, _⟩ => ⟨S16x4096, .i32⟩
  | .hbm, ⟨29, _⟩ => ⟨S_, .i32⟩
  | .hbm, ⟨30, _⟩ => ⟨S16x4096, .i32⟩
  | .hbm, ⟨31, _⟩ => ⟨S16x4096, .i32⟩
  | .hbm, ⟨32, _⟩ => ⟨S_, .i32⟩
  | .hbm, ⟨33, _⟩ => ⟨S16x4096, .i32⟩
  | .hbm, ⟨34, _⟩ => ⟨S16x4096, .i1⟩
  | .hbm, ⟨35, _⟩ => ⟨S_, .i32⟩
  | .hbm, ⟨36, _⟩ => ⟨S16x4096, .i32⟩
  | .hbm, ⟨37, _⟩ => ⟨S16x4096, .i32⟩
  | .hbm, ⟨38, _⟩ => ⟨S16x4096, .i32⟩
  | .hbm, ⟨39, _⟩ => ⟨S16x4096x1, .i32⟩
  | .hbm, ⟨40, _⟩ => ⟨S1, .i32⟩
  | .hbm, ⟨41, _⟩ => ⟨S_, .i32⟩
  | .hbm, ⟨42, _⟩ => ⟨S16x4096x1, .i32⟩
  | .hbm, ⟨43, _⟩ => ⟨S16x4096x1, .i1⟩
  | .hbm, ⟨44, _⟩ => ⟨S1x1x1, .i32⟩
  | .hbm, ⟨45, _⟩ => ⟨S16x4096x1, .i32⟩
  | .hbm, ⟨46, _⟩ => ⟨S16x4096x1, .i1⟩
  | .hbm, ⟨47, _⟩ => ⟨S16x4096x1, .i1⟩
  | .hbm, ⟨48, _⟩ => ⟨S_, .i1⟩
  | .hbm, ⟨49, _⟩ => ⟨S16x4096, .i1⟩
  | .hbm, ⟨50, _⟩ => ⟨S16x4096, .f32⟩
  | .hbm, ⟨51, _⟩ => ⟨S_, .f32⟩
  | .hbm, ⟨52, _⟩ => ⟨S16x4096, .f32⟩
  | .hbm, ⟨53, _⟩ => ⟨S16x4096, .f32⟩
  | .hbm, ⟨54, _⟩ => ⟨S16x4096x1x7, .f32⟩
  | .hbm, ⟨55, _⟩ => ⟨S1x1x64x7, .f32⟩
  | .hbm, ⟨56, _⟩ => ⟨S16x4096x64x7, .f32⟩
  | .hbm, ⟨57, _⟩ => ⟨S16x4096x64x7, .f32⟩
  | .hbm, ⟨58, _⟩ => ⟨S16x4096x64x7, .f32⟩
  | .hbm, ⟨59, _⟩ => ⟨S16x4096x64x7, .f32⟩
  | .hbm, ⟨60, _⟩ => ⟨S_, .f32⟩
  | .hbm, ⟨61, _⟩ => ⟨S16x4096x64, .f32⟩
  | .hbm, ⟨62, _⟩ => ⟨S16x4096x64x1, .f32⟩
  | .hbm, ⟨63, _⟩ => ⟨S_, .f32⟩
  | .hbm, ⟨64, _⟩ => ⟨S16x4096x64x1, .f32⟩
  | .hbm, ⟨65, _⟩ => ⟨S16x4096x64x1, .f32⟩
  | .hbm, ⟨66, _⟩ => ⟨S16x4096x64x1, .f32⟩
  | .hbm, ⟨67, _⟩ => ⟨S_, .f32⟩
  | .hbm, ⟨68, _⟩ => ⟨S16x4096x64x1, .f32⟩
  | .hbm, ⟨69, _⟩ => ⟨S16x4096x64x1, .f32⟩
  | .hbm, ⟨70, _⟩ => ⟨S16x4096x64x7, .f32⟩
  | .hbm, ⟨71, _⟩ => ⟨S16x4096x64x7, .f32⟩
  | .hbm, ⟨72, _⟩ => ⟨S16x4096x64x7, .f32⟩
  | .hbm, ⟨73, _⟩ => ⟨S_, .f32⟩
  | .hbm, ⟨74, _⟩ => ⟨S16x4096x64, .f32⟩
  | .hbm, ⟨75, _⟩ => ⟨S16x4096x64x1, .f32⟩
  | .hbm, ⟨76, _⟩ => ⟨S16x4096x64x1, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16x4096x64x1, .f32⟩
  | .hbm, ⟨81, _⟩ => ⟨S16x4096x64x1, .f32⟩
  | .hbm, ⟨82, _⟩ => ⟨S_, .f32⟩
  | .hbm, ⟨83, _⟩ => ⟨S16x4096x64x1, .f32⟩
  | .hbm, ⟨84, _⟩ => ⟨S16x4096x64x1, .f32⟩
  | .hbm, ⟨85, _⟩ => ⟨S16x4096x64x1, .f32⟩
  | .hbm, ⟨86, _⟩ => ⟨S16x4096x64x7, .f32⟩
  | .hbm, ⟨87, _⟩ => ⟨S16x4096x64x7, .f32⟩
  | .hbm, ⟨88, _⟩ => ⟨S16x4096x64x7, .f32⟩
  | .hbm, ⟨89, _⟩ => ⟨S16x4096x64x7, .f32⟩
  | .hbm, ⟨90, _⟩ => ⟨S16x4096, .f32⟩
  | .hbm, ⟨91, _⟩ => ⟨S16x4096x1x1, .f32⟩
  | .hbm, ⟨92, _⟩ => ⟨S16x4096x64x7, .f32⟩
  | .hbm, ⟨93, _⟩ => ⟨S16x4096x64x7, .f32⟩
  | .hbm, ⟨94, _⟩ => ⟨S_, .f32⟩
  | .hbm, ⟨95, _⟩ => ⟨S16x64x7, .f32⟩
  | .hbm, ⟨96, _⟩ => ⟨S_, .f32⟩
  | .hbm, ⟨97, _⟩ => ⟨S_, .f32⟩
  | .hbm, ⟨98, _⟩ => ⟨S16x64x7, .f32⟩
  | .hbm, ⟨99, _⟩ => ⟨S16x64x7, .f32⟩
  | .hbm, ⟨100, _⟩ => ⟨S_, .f32⟩
  | .hbm, ⟨101, _⟩ => ⟨S16x64, .f32⟩
  | .hbm, ⟨102, _⟩ => ⟨S16x64x1, .f32⟩
  | .hbm, ⟨103, _⟩ => ⟨S16x64x1, .f32⟩
  | .hbm, ⟨104, _⟩ => ⟨S_, .f32⟩
  | .hbm, ⟨105, _⟩ => ⟨S16x64x1, .f32⟩
  | .hbm, ⟨106, _⟩ => ⟨S16x64x1, .f32⟩
  | .hbm, ⟨107, _⟩ => ⟨S16x64x1, .f32⟩
  | .hbm, ⟨108, _⟩ => ⟨S16x64x7, .f32⟩
  | .hbm, ⟨109, _⟩ => ⟨S16x64x7, .f32⟩
  | .hbm, ⟨110, _⟩ => ⟨S16x64x7, .f32⟩
  | .hbm, ⟨111, _⟩ => ⟨S16x64x7, .f32⟩
  | .hbm, ⟨112, _⟩ => ⟨S16x64x7, .f32⟩
  | .hbm, ⟨113, _⟩ => ⟨S_, .f32⟩
  | .hbm, ⟨114, _⟩ => ⟨S16x64, .f32⟩
  | .hbm, ⟨115, _⟩ => ⟨S16x64x1, .f32⟩
  | .hbm, ⟨116, _⟩ => ⟨S_, .f32⟩
  | .hbm, ⟨117, _⟩ => ⟨S16x64x7, .f32⟩
  | .hbm, ⟨118, _⟩ => ⟨S16x64x7, .f32⟩
  | .hbm, ⟨119, _⟩ => ⟨S_, .f32⟩
  | .hbm, ⟨120, _⟩ => ⟨S16x64x1, .f32⟩
  | .hbm, ⟨121, _⟩ => ⟨S16x64x1, .f32⟩
  | .hbm, ⟨122, _⟩ => ⟨S_, .f32⟩
  | .hbm, ⟨123, _⟩ => ⟨S16x64x1, .f32⟩
  | .hbm, ⟨124, _⟩ => ⟨S16x64x1, .f32⟩
  | .hbm, ⟨125, _⟩ => ⟨S16x64x7, .f32⟩
  | .hbm, ⟨126, _⟩ => ⟨S16x64x7, .f32⟩
  | .hbm, ⟨127, _⟩ => ⟨S16x448, .f32⟩
  | _, _ => ⟨S16x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_c_1 : Ref sig .tc := ⟨.hbm, 24, rfl⟩
abbrev main_c_2 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v12 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_cst : Ref sig .tc := ⟨.hbm, 51, rfl⟩
abbrev main_call3_v14 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst : Ref sig .tc := ⟨.hbm, 60, rfl⟩
abbrev main_v20 : Ref sig .tc := ⟨.hbm, 61, rfl⟩
abbrev main_v21 : Ref sig .tc := ⟨.hbm, 62, rfl⟩
abbrev main_cst_3 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_4 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_5 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_6 : Ref sig .tc := ⟨.hbm, 77, rfl⟩
abbrev main_cst_7 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_8 : Ref sig .tc := ⟨.hbm, 94, rfl⟩
abbrev main_v43 : Ref sig .tc := ⟨.hbm, 95, rfl⟩
abbrev main_call5_call0_cst : Ref sig .tc := ⟨.hbm, 96, rfl⟩
abbrev main_call5_call0_v0 : Ref sig .tc := ⟨.hbm, 97, rfl⟩
abbrev main_v44 : Ref sig .tc := ⟨.hbm, 98, rfl⟩
abbrev main_v45 : Ref sig .tc := ⟨.hbm, 99, rfl⟩
abbrev main_cst_9 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_10 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_11 : Ref sig .tc := ⟨.hbm, 113, rfl⟩
abbrev main_v57 : Ref sig .tc := ⟨.hbm, 114, rfl⟩
abbrev main_v58 : Ref sig .tc := ⟨.hbm, 115, rfl⟩
abbrev main_cst_12 : Ref sig .tc := ⟨.hbm, 116, rfl⟩
abbrev main_v59 : Ref sig .tc := ⟨.hbm, 117, rfl⟩
abbrev main_v60 : Ref sig .tc := ⟨.hbm, 118, rfl⟩
abbrev main_cst_13 : Ref sig .tc := ⟨.hbm, 119, rfl⟩
abbrev main_v61 : Ref sig .tc := ⟨.hbm, 120, rfl⟩
abbrev main_v62 : Ref sig .tc := ⟨.hbm, 121, rfl⟩
abbrev main_cst_14 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩

abbrev nD : Nat := 1
abbrev τ : Topo := Topo.v7x

variable {F : FTy → Type} [FloatOps F]
-- ==== Proof.Body.lean ====
/- One batch row of the kernel's body as a function of that row, written once: the coefficient of a point,
   the coordinates, the norms, and the sum over the points by chunks of lanes. The four rows that a grid
   point handles are this function at four rows (`BodyRows.lean`). -/
module

public import proofs.«01_k».proof.Proof.Gen.KernelIdeal.Frame

@[expose] public section

set_option maxRecDepth 16384

noncomputable section

namespace Cert.Proof.Body

open Idealize.ShloMosaic Cert.KernelIdeal Cert.KernelIdeal.Gen

variable {F : FTy → Type} [FloatOps F]

/-- The points' class words: row 0 of the block, truncated to integers. -/
def hom (rows : FVec F S8x4096 .f32) : IVec S1x4096 32 :=
  fptosi 32 (extractStridedSlice S1x4096 ![0, 0] rows slices_S8x4096_o0_0_S1x4096)

/-- How many of a point's eight entries are not zero. -/
def count (rows : FVec F S8x4096 .f32) : IVec S1x4096 32 :=
  shapeCast S1x4096 (multiReductionI .add [0] S4096
    (extui 32 (cmpf .one rows (broadcast S8x4096 (Scalar.ofBits .f32 0x00000000#32))) natLt_1_32)
    0#32 reduces_S8x4096_S4096 rfl) shapeCasts_S4096_S1x4096

/-- Which points are valid: the class at most one, and some entry not zero. -/
def valid (rows : FVec F S8x4096 .f32) : IVec S1x4096 1 :=
  andi (cmpi .sle (hom rows) (broadcast S1x4096 1#32)) (cmpi .ne (count rows) (broadcast S1x4096 0#32))

/-- The position of a point. -/
def position : IVec S1x4096 32 := iota .tc S1x4096 32 [1] iota_S1x4096_d1_w32

/-- The least position of a point that is not valid, 4096 where every point is. -/
def firstBad (v : IVec S1x4096 1) : BitVec 32 :=
  extractAt ![0, 0, 0] (shapeCast S1x1x1 (multiReductionI .minsi [1, 2] S1
    (shapeCast S1x1x4096 (select v (broadcast S1x4096 4096#32) position) shapeCasts_S1x4096_S1x1x4096)
    2147483647#32 reduces_S1x1x4096_S1 rfl) shapeCasts_S1_S1x1x1) inpos_S1x1x1_p0_0_0

/-- One before the first point that is not valid, zero from it on. -/
def prefixMask (v : IVec S1x4096 1) : FVec F S1x4096 .f32 :=
  sitofp .f32 (extui 32 (cmpi .slt position (broadcast S1x4096 (firstBad v))) natLt_1_32)

/-- The class weight of a point. -/
def weight (rows : FVec F S8x4096 .f32) (a b : Vec F S1x1 .f32) : FVec F S1x4096 .f32 :=
  select (cmpi .sge (minsi (broadcast S1x4096 1#32) (maxsi (broadcast S1x4096 0#32) (hom rows)))
      (broadcast S1x4096 1#32))
    (broadcast S1x4096 (extractAt ![0, 0] b inpos_S1x1_p0_0)) (broadcast S1x4096 (extractAt ![0, 0] a inpos_S1x1_p0_0))

/-- The coefficient of a point: its weight before the first invalid point, zero from it on. -/
def coef (rows : FVec F S8x4096 .f32) (a b : Vec F S1x1 .f32) : FVec F S1x4096 .f32 :=
  mulf (weight rows a b) (prefixMask (valid rows))

/-- One coordinate of every point, moved by that coordinate of every basis. -/
def shifted (row : FVec F S1x4096 .f32) (col : FVec F S64x1 .f32) : FVec F S64x4096 .f32 :=
  addf (broadcastTo S64x4096 row broadcasts_S1x4096_S64x4096) (broadcastTo S64x4096 col broadcasts_S64x1_S64x4096)

/-- The sum of the squares of seven coordinates. -/
def squares (u : Fin 7 → FVec F S64x4096 .f32) : FVec F S64x4096 .f32 :=
  addf (addf (addf (addf (addf (addf (mulf (u 0) (u 0)) (mulf (u 1) (u 1))) (mulf (u 2) (u 2)))
    (mulf (u 3) (u 3))) (mulf (u 4) (u 4))) (mulf (u 5) (u 5))) (mulf (u 6) (u 6))

/-- The seven shifted coordinates. -/
def coords (rows : FVec F S8x4096 .f32) (th : FVec F S64x7 .f32) : Fin 7 → FVec F S64x4096 .f32 := fun i => match i with
  | 0 => shifted (extractStridedSlice S1x4096 ![1, 0] rows slices_S8x4096_o1_0_S1x4096)
      (extractStridedSlice S64x1 ![0, 0] th slices_S64x7_o0_0_S64x1)
  | 1 => shifted (extractStridedSlice S1x4096 ![2, 0] rows slices_S8x4096_o2_0_S1x4096)
      (extractStridedSlice S64x1 ![0, 1] th slices_S64x7_o0_1_S64x1)
  | 2 => shifted (extractStridedSlice S1x4096 ![3, 0] rows slices_S8x4096_o3_0_S1x4096)
      (extractStridedSlice S64x1 ![0, 2] th slices_S64x7_o0_2_S64x1)
  | 3 => shifted (extractStridedSlice S1x4096 ![4, 0] rows slices_S8x4096_o4_0_S1x4096)
      (extractStridedSlice S64x1 ![0, 3] th slices_S64x7_o0_3_S64x1)
  | 4 => shifted (extractStridedSlice S1x4096 ![5, 0] rows slices_S8x4096_o5_0_S1x4096)
      (extractStridedSlice S64x1 ![0, 4] th slices_S64x7_o0_4_S64x1)
  | 5 => shifted (extractStridedSlice S1x4096 ![6, 0] rows slices_S8x4096_o6_0_S1x4096)
      (extractStridedSlice S64x1 ![0, 5] th slices_S64x7_o0_5_S64x1)
  | 6 => shifted (extractStridedSlice S1x4096 ![7, 0] rows slices_S8x4096_o7_0_S1x4096)
      (extractStridedSlice S64x1 ![0, 6] th slices_S64x7_o0_6_S64x1)

/-- The coordinates in the ball: each over one plus the square root of one plus the sum of squares. -/
def ball (u : Fin 7 → FVec F S64x4096 .f32) (i : Fin 7) : FVec F S64x4096 .f32 :=
  divf (u i) (addf (sqrt (addf (squares u) (broadcast S64x4096 (Scalar.ofBits .f32 0x3F800000#32))))
    (broadcast S64x4096 (Scalar.ofBits .f32 0x3F800000#32)))

/-- The norm of seven coordinates, kept inside the clip bounds. -/
def norm (x : Fin 7 → FVec F S64x4096 .f32) : FVec F S64x4096 .f32 :=
  minimumf (broadcast S64x4096 (Scalar.ofBits .f32 0x3F7FFFFE#32))
    (maximumf (broadcast S64x4096 (Scalar.ofBits .f32 0x33D6BF95#32)) (sqrt (squares x)))

/-- Half the difference of the logarithms of one plus and one minus a norm. -/
def artanh (n : FVec F S64x4096 .f32) : FVec F S64x4096 .f32 :=
  mulf (subf (log1p n) (log1p (subf (broadcast S64x4096 (Scalar.ofBits .f32 0x00000000#32)) n)))
    (broadcast S64x4096 (Scalar.ofBits .f32 0x3F000000#32))

/-- One coordinate of what every point adds at every basis. -/
def term (c : FVec F S1x4096 .f32) (x : Fin 7 → FVec F S64x4096 .f32) (i : Fin 7) : FVec F S64x4096 .f32 :=
  mulf (broadcastTo S64x4096 c broadcasts_S1x4096_S64x4096) (divf (mulf (artanh (norm x)) (x i)) (norm x))

/-- The block of 128 lanes at an offset. -/
def lanes (t : FVec F S64x4096 .f32) (o : Nat) (h : S64x4096.Slices ![0, o] S64x128) : FVec F S64x128 .f32 :=
  extractStridedSlice S64x128 ![0, o] t h

/-- Every block of 128 lanes that ends within the 4096 is a slice. -/
theorem slices_lanes (o : Nat) (h : o ≤ 3968) : S64x4096.Slices ![0, o] S64x128 :=
  ⟨rfl, fun a => by
    match a with
    | 0 => exact le_of_eq rfl
    | 1 => show o + 128 ≤ 4096; omega⟩

/-- The first `n + 1` blocks from an offset, added one after another. -/
def chunks (t : FVec F S64x4096 .f32) (base : Nat) : (n : Nat) → base + n * 128 ≤ 3968 → FVec F S64x128 .f32
  | 0, h => lanes t base (slices_lanes _ (by omega))
  | n + 1, h => addf (chunks t base n (by omega)) (lanes t (base + (n + 1) * 128) (slices_lanes _ h))

/-- The sum over the 2048 points from an offset: sixteen blocks, then their lanes. -/
def half (t : FVec F S64x4096 .f32) (base : Nat) (h : base + 15 * 128 ≤ 3968) : FVec F S64x1 .f32 :=
  shapeCast S64x1 (multiReduction .add [1] S64 (chunks t base 15 h) 0x00000000#32 reduces_S64x128_S64 (.inl rfl) rfl)
    shapeCasts_S64_S64x1

/-- The sum over all the points: the two halves. -/
def total (t : FVec F S64x4096 .f32) : FVec F S64x1 .f32 := addf (half t 0 (by omega)) (half t 2048 (by omega))

/-- The seven sums side by side. -/
def beside (s : Fin 7 → FVec F S64x1 .f32) : FVec F S1x64x7 .f32 :=
  shapeCast S1x64x7 (concatenate S64x7 1 [⟨S64x1, s 0⟩, ⟨S64x1, s 1⟩, ⟨S64x1, s 2⟩, ⟨S64x1, s 3⟩, ⟨S64x1, s 4⟩,
    ⟨S64x1, s 5⟩, ⟨S64x1, s 6⟩] concatenates_S64x1_S64x1_S64x1_S64x1_S64x1_S64x1_S64x1_S64x7_d1) shapeCasts_S64x7_S1x64x7

/-- What one batch row gives: at every basis and coordinate, the sum over the points. -/
def row (rows : FVec F S8x4096 .f32) (th : FVec F S64x7 .f32) (a b : Vec F S1x1 .f32) : FVec F S1x64x7 .f32 :=
  beside fun i => total (term (coef rows a b) (ball (coords rows th)) i)

end Cert.Proof.Body

end
-- ==== Proof.BodyRows.lean ====
/- The four stores of the kernel's body: each holds what `Body.row` gives at one of the block's four batch rows. -/
module

public import proofs.«01_k».proof.Proof.Body

@[expose] public section

set_option maxRecDepth 65536
set_option maxHeartbeats 4000000

noncomputable section

namespace Cert.Proof.Body

open Idealize.ShloMosaic Cert.KernelIdeal Cert.KernelIdeal.Gen

variable {F : FTy → Type} [FloatOps F]

/-- One batch row of a block of four. -/
def rowOf (x : Vec F S1x8x4096 .f32) : FVec F S8x4096 .f32 := shapeCast S8x4096 x shapeCasts_S1x8x4096_S8x4096

/-- The bases, one row each. -/
def bases (x : Vec F S7x64 .f32) : FVec F S64x7 .f32 :=
  transpose S64x7 [1, 0] (shapeCast S7x64 x shapeCasts_S7x64_S7x64) transposes_S7x64_p1_0_S64x7

/-- What the body leaves in its block of the result: one row per batch, each at its place. -/
theorem out_eq (x0 : Vec F S4x8x4096 .f32) (x1 : Vec F S7x64 .f32) (x2 : Vec F S1x2 .f32) :
    out0_3 x0 x1 x2 = View.canon [
      ⟨r0_10, row (rowOf (View.ld x0 r0_9)) (bases (View.ld x1 r0_0)) (View.ld x2 r0_2) (View.ld x2 r0_3)⟩,
      ⟨r0_8, row (rowOf (View.ld x0 r0_7)) (bases (View.ld x1 r0_0)) (View.ld x2 r0_2) (View.ld x2 r0_3)⟩,
      ⟨r0_6, row (rowOf (View.ld x0 r0_5)) (bases (View.ld x1 r0_0)) (View.ld x2 r0_2) (View.ld x2 r0_3)⟩,
      ⟨r0_4, row (rowOf (View.ld x0 r0_1)) (bases (View.ld x1 r0_0)) (View.ld x2 r0_2) (View.ld x2 r0_3)⟩] := rfl

end Cert.Proof.Body

end
-- ==== Proof.BodySums.lean ====
/- The body's sum over the points, read at a basis: adding sixteen blocks of lanes, then the lanes, then the two
   halves, is the plain sum over the 4096 points. -/
module

public import proofs.«01_k».proof.Proof.Body
public import Idealize.ShloMosaic.Lib.Pointwise

@[expose] public section

set_option maxRecDepth 16384

noncomputable section

namespace Cert.Proof.Body

open Idealize.ShloMosaic Cert.KernelIdeal Cert.KernelIdeal.Gen
open scoped BigOperators

/-- A lane of the first `n + 1` blocks: the sum of the points at that lane. -/
theorem chunks_apply (t : FVec Ideal S64x4096 .f32) (base n : Nat) (h : base + n * 128 ≤ 3968) (k : Fin 64) (l : Fin 128) :
    chunks t base n h (ix2 k l)
      = ∑ c : Fin (n + 1), t (ix2 k ⟨base + c.val * 128 + l.val, by have := c.isLt; have := l.isLt; omega⟩) := by
  induction n with
  | zero =>
    rw [Fin.sum_univ_one]
    pointwise [chunks, lanes]
  | succ n ih =>
    rw [Fin.sum_univ_castSucc]
    pointwise [chunks, lanes]
    rw [ih]
    rfl

/-- Half of the points, read at a basis. -/
theorem half_apply (t : FVec Ideal S64x4096 .f32) (base : Nat) (h : base + 15 * 128 ≤ 3968) (k : Fin 64) :
    half t base h (ix2 k 0)
      = ∑ c : Fin 16, ∑ l : Fin 128, t (ix2 k ⟨base + c.val * 128 + l.val, by have := c.isLt; have := l.isLt; omega⟩) := by
  rw [Finset.sum_comm]
  unfold half
  pointwise
  exact Finset.sum_congr rfl fun l _ => chunks_apply t base 15 h k l

/-- All the points, read at a basis. -/
theorem total_apply (t : FVec Ideal S64x4096 .f32) (k : Fin 64) :
    total t (ix2 k 0) = ∑ n : Fin 4096, t (ix2 k n) := by
  rw [Fin.sum_univ_tiles 32 128 rfl, Fin.sum_univ_add (a := 16) (b := 16)]
  unfold total
  pointwise
  rw [half_apply, half_apply]
  refine congrArg₂ (· + ·) ?_ ?_ <;>
    refine Finset.sum_congr rfl fun c _ => Finset.sum_congr rfl fun l _ => congrArg t (congrArg (ix2 k) (Fin.ext ?_))
  · simp
  · simp; omega

/-- The seven sums side by side, read at a basis and a coordinate. -/
theorem beside_apply (s : Fin 7 → FVec Ideal S64x1 .f32) (k : Fin 64) (i : Fin 7) :
    beside s (ix3 0 k i) = s i (ix2 k 0) := by
  unfold beside
  fin_cases i <;> pointwise

end Cert.Proof.Body

end
-- ==== Proof.Spec.lean ====
/- What both programs compute before their common last steps, in plain terms over the extended reals: at every batch,
   basis and coordinate, a weighted sum over the points up to the first invalid one. -/
module

public import Idealize.ShloMosaic.PureOps.Ideal

@[expose] public section

noncomputable section

namespace Cert.Proof.Spec

open Idealize.ShloMosaic
open scoped BigOperators Classical

/-- A point's class: its first entry, truncated to an integer word. -/
def cls (p : Fin 8 → EReal) : BitVec 32 := Ideal.fptosi 32 (p 0)

/-- A point is valid when its class is at most one and some entry is not zero. -/
def Valid (p : Fin 8 → EReal) : Prop := (cls p).toInt ≤ 1 ∧ ∃ i, p i ≠ 0

/-- One where every point up to this one satisfies a condition, zero elsewhere. -/
def upTo {N : Nat} (V : Fin N → Prop) (n : Fin N) : EReal := if ∀ k, k ≤ n → V k then 1 else 0

/-- The weight of a class word: the second where it is at least one, the first elsewhere. -/
def weight (h : BitVec 32) (a b : EReal) : EReal := if 1 ≤ h.toInt then b else a

/-- The sum of the squares of seven coordinates. -/
def squares (u : Fin 7 → EReal) : EReal := ∑ i, u i * u i

/-- The coordinates in the ball. -/
def ball (u : Fin 7 → EReal) (i : Fin 7) : EReal := Ideal.div (u i) (Ideal.sqrt (squares u + 1) + 1)

/-- The norm, kept inside the clip bounds. -/
def norm (x : Fin 7 → EReal) : EReal :=
  min (Ideal.ofBits .f32 0x3F7FFFFE#32) (max (Ideal.ofBits .f32 0x33D6BF95#32) (Ideal.sqrt (squares x)))

/-- The tangent vector at the origin. -/
def tangent (x : Fin 7 → EReal) (i : Fin 7) : EReal := Ideal.div (Ideal.atanh (norm x) * x i) (norm x)

/-- What one point adds at one basis. -/
def move (p : Fin 8 → EReal) (t : Fin 7 → EReal) : Fin 7 → EReal := tangent (ball fun i => p i.succ + t i)

/-- The weighted sum over the points up to the first invalid one. -/
def total (P : Fin 4096 → Fin 8 → EReal) (t : Fin 7 → EReal) (a b : EReal) (i : Fin 7) : EReal :=
  ∑ n, weight (cls (P n)) a b * upTo (fun k => Valid (P k)) n * move (P n) t i

end Cert.Proof.Spec

end
-- ==== Proof.Scalars.lean ====
/- Facts about single numbers and words that the two programs' terms meet by: the inverse hyperbolic tangent as half a
   difference of logarithms, least members of a list, and the clipped class word. -/
module

public import proofs.«01_k».proof.Proof.Spec
public import Idealize.ShloMosaic.PureOps
public import Mathlib.Tactic.Linarith
public import Mathlib.Tactic.NormNum

@[expose] public section

noncomputable section

namespace Cert.Proof.Scalars

open Idealize.ShloMosaic
open scoped BigOperators

/-- The upper clip bound is a number below one. -/
theorem hi_eq : Ideal.ofBits .f32 0x3F7FFFFE#32 = (((8388607 : ℝ) / 8388608 : ℝ) : EReal) := by
  have h1 : (0x3F7FFFFE#32 : BitVec 32).extractLsb' 23 8 = 126#8 := by decide
  have h2 : (0x3F7FFFFE#32 : BitVec 32).extractLsb' 0 23 = 8388606#23 := by decide
  have h3 : (0x3F7FFFFE#32 : BitVec 32).extractLsb' 31 1 = 0#1 := by decide
  simp only [Ideal.ofBits, Ideal.ieee, h1, h2, h3]
  norm_num

/-- The lower clip bound is a number above zero. -/
theorem lo_eq : Ideal.ofBits .f32 0x33D6BF95#32 = (((14073749 : ℝ) / 140737488355328 : ℝ) : EReal) := by
  have h1 : (0x33D6BF95#32 : BitVec 32).extractLsb' 23 8 = 103#8 := by decide
  have h2 : (0x33D6BF95#32 : BitVec 32).extractLsb' 0 23 = 5685141#23 := by decide
  have h3 : (0x33D6BF95#32 : BitVec 32).extractLsb' 31 1 = 0#1 := by decide
  simp only [Ideal.ofBits, Ideal.ieee, h1, h2, h3]
  norm_num

/-- One half. -/
theorem half_eq : Ideal.ofBits .f32 0x3F000000#32 = (((1 : ℝ) / 2 : ℝ) : EReal) := by
  have h1 : (0x3F000000#32 : BitVec 32).extractLsb' 23 8 = 126#8 := by decide
  have h2 : (0x3F000000#32 : BitVec 32).extractLsb' 0 23 = 0#23 := by decide
  have h3 : (0x3F000000#32 : BitVec 32).extractLsb' 31 1 = 0#1 := by decide
  simp only [Ideal.ofBits, Ideal.ieee, h1, h2, h3]
  norm_num

/-- A clipped norm is a real number strictly between zero and one. -/
theorem norm_real (x : Fin 7 → EReal) : ∃ r : ℝ, 0 < r ∧ r < 1 ∧ Spec.norm x = (r : EReal) := by
  have hhi : Spec.norm x ≤ (((8388607 : ℝ) / 8388608 : ℝ) : EReal) := by
    unfold Spec.norm; rw [hi_eq]; exact min_le_left _ _
  have hlo : (((14073749 : ℝ) / 140737488355328 : ℝ) : EReal) ≤ Spec.norm x := by
    unfold Spec.norm; rw [hi_eq, lo_eq]
    refine le_min ?_ (le_max_left _ _)
    exact EReal.coe_le_coe_iff.2 (by norm_num)
  generalize Spec.norm x = y at hhi hlo
  induction y with
  | bot => exact absurd hlo (not_le.2 (EReal.bot_lt_coe _))
  | top => exact absurd hhi (not_le.2 (EReal.coe_lt_top _))
  | coe r =>
    rw [EReal.coe_le_coe_iff] at hhi hlo
    refine ⟨r, lt_of_lt_of_le (by norm_num) hlo, lt_of_le_of_lt hhi (by norm_num), rfl⟩

/-- Half the difference of the two logarithms is the inverse hyperbolic tangent, strictly between zero and one. -/
theorem artanh_eq {r : ℝ} (h0 : 0 < r) (h1 : r < 1) :
    (Ideal.log1p (r : EReal) - Ideal.log1p (0 - (r : EReal))) * Ideal.ofBits .f32 0x3F000000#32 = Ideal.atanh (r : EReal) := by
  have e1 : (1 : EReal) + (r : EReal) = ((1 + r : ℝ) : EReal) := by push_cast; rfl
  have e2 : (1 : EReal) + (0 - (r : EReal)) = ((1 - r : ℝ) : EReal) := by
    rw [zero_sub, sub_eq_add_neg 1 r]; push_cast; rfl
  have n1 : ¬ r = 1 := by linarith
  have n2 : ¬ r = -1 := by linarith
  have n3 : ¬ (1 + r ≤ 0) := by linarith
  have n4 : ¬ (1 - r ≤ 0) := by linarith
  have n5 : -1 < r ∧ r < 1 := ⟨by linarith, h1⟩
  rw [half_eq, Ideal.log1p, Ideal.log1p, e1, e2, Ideal.log_coe, Ideal.log_coe, Ideal.atanh_coe, if_neg n1, if_neg n2,
    if_neg n3, if_neg n4, if_pos n5, ← EReal.coe_sub, ← EReal.coe_mul,
    Real.artanh_eq_half_log ⟨by linarith, by linarith⟩, Real.log_div (by linarith) (by linarith), mul_comm]

/-- The least of a list of words and a starting word exceeds a bound exactly when each of them does. -/
theorem lt_foldl_minsi {ι : Type} (x : ι → BitVec 32) (t : Int) (l : List ι) (r : BitVec 32) :
    t < (l.foldl (fun r n => IntOp.minsi r (x n)) r).toInt ↔ t < r.toInt ∧ ∀ n ∈ l, t < (x n).toInt := by
  induction l generalizing r with
  | nil => simp
  | cons a l ih =>
    rw [List.foldl_cons, ih, IntOp.minsi]
    have : t < (if r.slt (x a) = true then r else x a).toInt ↔ t < r.toInt ∧ t < (x a).toInt := by
      split
      · next h => rw [BitVec.slt_iff_toInt_lt] at h; omega
      · next h => rw [BitVec.slt_iff_toInt_lt] at h; omega
    rw [this]; simp only [List.mem_cons, forall_eq_or_imp]; tauto

/-- The least of a list of numbers and a starting number is at least a bound exactly when each of them is. -/
theorem le_foldl_min {ι : Type} (x : ι → EReal) (z : EReal) (l : List ι) (r : EReal) :
    z ≤ l.foldl (fun r n => min r (x n)) r ↔ z ≤ r ∧ ∀ n ∈ l, z ≤ x n := by
  induction l generalizing r with
  | nil => simp
  | cons a l ih =>
    rw [List.foldl_cons, ih, le_min_iff]; simp only [List.mem_cons, forall_eq_or_imp]; tauto

/-- The class word clipped to zero and one is one where the class is at least one, zero elsewhere. -/
theorem clip_eq (h : BitVec 32) : IntOp.minsi 1#32 (IntOp.maxsi 0#32 h) = if 1 ≤ h.toInt then 1#32 else 0#32 := by
  have z : (0#32 : BitVec 32).toInt = 0 := rfl
  have o : (1#32 : BitVec 32).toInt = 1 := rfl
  unfold IntOp.minsi IntOp.maxsi
  simp only [BitVec.slt_iff_toInt_lt]
  split_ifs <;> simp_all <;> first | omega | (apply BitVec.eq_of_toInt_eq; simp; omega)

end Cert.Proof.Scalars

end
-- ==== Proof.Words.lean ====
/- Least words and counts over finite sets, and the words of conditions. -/
module

public import proofs.«01_k».proof.Proof.Scalars
public import Idealize.ShloMosaic.Lib.Pointwise

@[expose] public section

noncomputable section

namespace Cert.Proof.Words

open Idealize.ShloMosaic
open scoped BigOperators

/-- A least word over a finite set exceeds a bound exactly when the starting word and every word of the set do. -/
theorem lt_fold_minsi {ι : Type} (S : Finset ι) (x : ι → BitVec 32) (r : BitVec 32) (b : Int) :
    b < (S.fold IntOp.minsi r x).toInt ↔ b < r.toInt ∧ ∀ n ∈ S, b < (x n).toInt := by
  induction S using Finset.cons_induction with
  | empty => simp
  | cons a S ha ih =>
    rw [Finset.fold_cons, Finset.forall_mem_cons]
    have e : ∀ p q : BitVec 32, b < (IntOp.minsi p q).toInt ↔ b < p.toInt ∧ b < q.toInt := fun p q => by
      simpa using Scalars.lt_foldl_minsi (fun _ : Unit => q) b [()] p
    rw [e, ih]; tauto

/-- The count of zero-or-one words over a finite set, as a number. -/
theorem toNat_fold_addi {ι : Type} (S : Finset ι) (x : ι → BitVec 32) (hx : ∀ n, (x n).toNat ≤ 1) (hS : S.card < 2 ^ 32) :
    (S.fold IntOp.addi 0#32 x).toNat = ∑ n ∈ S, (x n).toNat := by
  induction S using Finset.cons_induction with
  | empty => simp
  | cons a S ha ih =>
    rw [Finset.card_cons] at hS
    have hle : ∑ n ∈ S, (x n).toNat ≤ S.card := by
      simpa using Finset.sum_le_card_nsmul S (fun n => (x n).toNat) 1 fun n _ => hx n
    have := hx a
    rw [Finset.fold_cons, Finset.sum_cons, IntOp.addi, BitVec.toNat_add, ih (by omega), Nat.mod_eq_of_lt (by omega)]

/-- A count of zero-or-one words over a finite set is not zero exactly when one of them is not. -/
theorem fold_addi_ne {ι : Type} (S : Finset ι) (x : ι → BitVec 32) (hx : ∀ n, (x n).toNat ≤ 1) (hS : S.card < 2 ^ 32) :
    S.fold IntOp.addi 0#32 x ≠ 0#32 ↔ ∃ n ∈ S, x n ≠ 0#32 := by
  have z : ∀ y : BitVec 32, y ≠ 0#32 ↔ y.toNat ≠ 0 := fun y => by rw [Ne, Ne, ← BitVec.toNat_inj]; rfl
  rw [z, toNat_fold_addi S x hx hS, Ne, Finset.sum_eq_zero_iff]
  simp only [z, ne_eq, not_forall, exists_prop]

/-- The word of a condition, widened, is zero or one. -/
theorem toNat_wide_le (c : Bool) : (BitVec.setWidth 32 (BitVec.ofBool c)).toNat ≤ 1 := by cases c <;> decide

/-- The word of a condition, widened, is not zero exactly when the condition holds. -/
theorem wide_ne (c : Bool) : BitVec.setWidth 32 (BitVec.ofBool c) ≠ 0#32 ↔ c = true := by cases c <;> decide

/-- The word of a condition is one exactly when the condition holds. -/
theorem ofBool_eq (c : Bool) : BitVec.ofBool c = 1#1 ↔ c = true := by cases c <;> decide

/-- The conjunction of two one-bit words is one exactly when both are. -/
theorem andi_eq (p q : BitVec 1) : IntOp.andi p q = 1#1 ↔ p = 1#1 ∧ q = 1#1 := by revert p q; decide

end Cert.Proof.Words

end
-- ==== Proof.BodyPoint.lean ====
/- One batch row of the kernel's body, read at a basis and a coordinate: the weighted sum of the plain statement. -/
module

public import proofs.«01_k».proof.Proof.BodySums
public import proofs.«01_k».proof.Proof.Words

@[expose] public section

set_option maxRecDepth 16384

noncomputable section

namespace Cert.Proof.Body

open Idealize.ShloMosaic Cert.KernelIdeal Cert.KernelIdeal.Gen
open scoped BigOperators

/-- A shifted coordinate, read at a basis and a point. -/
theorem shifted_apply (row : FVec Ideal S1x4096 .f32) (col : FVec Ideal S64x1 .f32) (k : Fin 64) (n : Fin 4096) :
    shifted row col (ix2 k n) = (row (ix2 0 n) : EReal) + col (ix2 k 0) := by
  pointwise [shifted]

/-- A coordinate's row of the block. -/
theorem coords_apply (rows : FVec Ideal S8x4096 .f32) (th : FVec Ideal S64x7 .f32) (i : Fin 7) (k : Fin 64) (n : Fin 4096) :
    coords rows th i (ix2 k n) = (rows (ix2 i.succ n) : EReal) + th (ix2 k i) := by
  fin_cases i <;> (simp only [coords]; rw [shifted_apply]; pointwise; rfl)

/-- The sum of squares, read at a basis and a point. -/
theorem squares_apply (u : Fin 7 → FVec Ideal S64x4096 .f32) (j : S64x4096.Idx) :
    squares u j = Spec.squares fun i => u i j := by
  rw [Spec.squares, Fin.sum_univ_seven]; rfl

/-- The ball coordinates, read at a basis and a point. -/
theorem ball_apply (u : Fin 7 → FVec Ideal S64x4096 .f32) (i : Fin 7) (k : Fin 64) (n : Fin 4096) :
    ball u i (ix2 k n) = Spec.ball (fun i => u i (ix2 k n)) i := by
  pointwise [ball, Spec.ball]
  rw [squares_apply]

/-- The clipped norm, read at a basis and a point. -/
theorem norm_apply (x : Fin 7 → FVec Ideal S64x4096 .f32) (k : Fin 64) (n : Fin 4096) :
    norm x (ix2 k n) = Spec.norm fun i => x i (ix2 k n) := by
  pointwise [norm, Spec.norm]
  rw [squares_apply]

/-- The halved difference of logarithms at a clipped norm is the inverse hyperbolic tangent. -/
theorem artanh_apply (x : Fin 7 → FVec Ideal S64x4096 .f32) (k : Fin 64) (n : Fin 4096) :
    artanh (norm x) (ix2 k n) = Ideal.atanh (Spec.norm fun i => x i (ix2 k n)) := by
  obtain ⟨r, h0, h1, hr⟩ := Scalars.norm_real fun i => x i (ix2 k n)
  rw [hr, ← Scalars.artanh_eq h0 h1, ← hr, ← norm_apply]
  pointwise [artanh]

/-- What a point adds, read at a basis and a point. -/
theorem term_apply (c : FVec Ideal S1x4096 .f32) (x : Fin 7 → FVec Ideal S64x4096 .f32) (i : Fin 7) (k : Fin 64) (n : Fin 4096) :
    term c x i (ix2 k n) = (c (ix2 0 n) : EReal) * Spec.tangent (fun i => x i (ix2 k n)) i := by
  pointwise [term, Spec.tangent]
  rw [artanh_apply, norm_apply]

/-- The class words. -/
theorem hom_apply (rows : FVec Ideal S8x4096 .f32) (n : Fin 4096) :
    hom rows (ix2 0 n) = Spec.cls fun r => rows (ix2 r n) := by
  pointwise [hom, Spec.cls]
  rfl

/-- The class weight of a point. -/
theorem weight_apply (rows : FVec Ideal S8x4096 .f32) (a b : Vec Ideal S1x1 .f32) (n : Fin 4096) :
    weight rows a b (ix2 0 n) = Spec.weight (Spec.cls fun r => rows (ix2 r n)) (a (ix2 0 0)) (b (ix2 0 0)) := by
  pointwise [weight, Spec.weight]
  rw [hom_apply, Scalars.clip_eq]
  split <;> rfl

/-- The count at a point is not zero exactly when some entry is not. -/
theorem count_apply (rows : FVec Ideal S8x4096 .f32) (n : Fin 4096) :
    count rows (ix2 0 n) ≠ 0#32 ↔ ∃ r, (rows (ix2 r n) : EReal) ≠ 0 := by
  pointwise [count]
  refine (Words.fold_addi_ne _ _ (fun i => Words.toNat_wide_le _) (by decide)).trans ?_
  refine ⟨fun ⟨r, _, h⟩ => ⟨r, of_decide_eq_true ((Words.wide_ne _).1 h)⟩,
    fun ⟨r, h⟩ => ⟨r, Finset.mem_univ _, (Words.wide_ne _).2 (decide_eq_true h)⟩⟩

/-- A point is valid. -/
theorem valid_apply (rows : FVec Ideal S8x4096 .f32) (n : Fin 4096) :
    valid rows (ix2 0 n) = 1#1 ↔ Spec.Valid fun r => rows (ix2 r n) := by
  rw [Spec.Valid, ← count_apply, ← hom_apply]
  pointwise [valid]
  rw [Words.andi_eq, IntOp.cmpi, IntOp.cmpi, Words.ofBool_eq, Words.ofBool_eq, bne_iff_ne, BitVec.sle_iff_toInt_le]
  rfl

/-- A position's word, as a number. -/
theorem toInt_position (k : Fin 4096) : (BitVec.ofNat 32 k.val).toInt = (k.val : Int) := by
  have hk := k.isLt
  have e : (BitVec.ofNat 32 k.val).toNat = k.val := by rw [BitVec.toNat_ofNat, Nat.mod_eq_of_lt (by omega)]
  rw [BitVec.toInt_eq_toNat_of_lt (by omega), e]

/-- A point comes before the first invalid one exactly when every point up to it is valid. -/
theorem firstBad_lt (v : IVec S1x4096 1) (n : Fin 4096) :
    (n.val : Int) < (firstBad v).toInt ↔ ∀ k : Fin 4096, k ≤ n → v (ix2 0 k) = 1#1 := by
  have hn := n.isLt
  pointwise [firstBad, position]
  refine (Words.lt_fold_minsi _ _ _ _).trans ?_
  have e1 : (2147483647#32 : BitVec 32).toInt = 2147483647 := rfl
  have e2 : (4096#32 : BitVec 32).toInt = 4096 := rfl
  rw [e1]
  constructor
  · rintro ⟨-, h⟩ k hk
    by_contra hv
    have := h (0, k) (Finset.mem_univ _)
    rw [Scalar.select, if_neg (show ¬ v (ix2 0 k) = 1 from hv), toInt_position] at this
    have : n < k := by rw [Fin.lt_def]; exact_mod_cast this
    exact absurd hk (not_le.2 this)
  · intro h
    refine ⟨by omega, fun x _ => ?_⟩
    rw [Scalar.select]
    split
    · rw [e2]; omega
    · next hv =>
      rw [toInt_position]
      have : n < x.2 := not_le.1 fun hk => hv (h _ hk)
      exact_mod_cast this

/-- The mask is one up to the last point before an invalid one, and zero from that one on. -/
theorem prefixMask_apply (v : IVec S1x4096 1) (n : Fin 4096) :
    (prefixMask v : FVec Ideal S1x4096 .f32) (ix2 0 n) = Spec.upTo (fun k => v (ix2 0 k) = 1#1) n := by
  have h := firstBad_lt v n
  pointwise [prefixMask, Spec.upTo, position]
  have hc : IntOp.cmpi CmpIPredicate.slt (BitVec.ofNat 32 n.val) (firstBad v) = 1#1 ↔ ∀ k ≤ n, v (ix2 0 k) = 1#1 := by
    rw [← h, IntOp.cmpi, Words.ofBool_eq, BitVec.slt_iff_toInt_lt, toInt_position]
  have hb : ∀ c : BitVec 1, (FloatOps.sitofp (F := Ideal) FTy.f32 (BitVec.setWidth 32 c) : EReal) = if c = 1#1 then 1 else 0 := fun c => by
    show ((((BitVec.setWidth 32 c).toInt : ℝ)) : EReal) = _
    rcases (by revert c; decide : c = 0#1 ∨ c = 1#1) with rfl | rfl <;> simp
  refine (hb _).trans ?_
  by_cases hp : ∀ k ≤ n, v (ix2 0 k) = 1#1
  · rw [if_pos (hc.2 hp), if_pos hp]
  · rw [if_neg (mt hc.1 hp), if_neg hp]

/-- The coefficient of a point. -/
theorem coef_apply (rows : FVec Ideal S8x4096 .f32) (a b : Vec Ideal S1x1 .f32) (n : Fin 4096) :
    coef rows a b (ix2 0 n)
      = Spec.weight (Spec.cls fun r => rows (ix2 r n)) (a (ix2 0 0)) (b (ix2 0 0))
        * Spec.upTo (fun k => Spec.Valid fun r => rows (ix2 r k)) n := by
  have h := prefixMask_apply (valid rows) n
  simp only [valid_apply] at h
  rw [← h, ← weight_apply]
  rfl

/-- One batch row at a basis and a coordinate: the weighted sum over the points up to the first invalid one. -/
theorem row_apply (rows : FVec Ideal S8x4096 .f32) (th : FVec Ideal S64x7 .f32) (a b : Vec Ideal S1x1 .f32) (k : Fin 64) (i : Fin 7) :
    row rows th a b (ix3 0 k i)
      = Spec.total (fun n r => rows (ix2 r n)) (fun i => th (ix2 k i)) (a (ix2 0 0)) (b (ix2 0 0)) i := by
  rw [row, beside_apply, total_apply, Spec.total]
  refine Finset.sum_congr rfl fun n _ => ?_
  rw [term_apply, coef_apply, Spec.move]
  simp only [ball_apply, coords_apply]

end Cert.Proof.Body

end
-- ==== Proof.RefTerms.lean ====
/- The reference's result as a function of its three arrays, in two parts: the sums over the points, and the common last
   steps from those sums to the result. -/
module

public import proofs.«01_k».proof.Proof.Gen.ReferenceIdeal.Run

@[expose] public section

set_option maxRecDepth 16384

noncomputable section

namespace Cert.Proof.Ref

open Idealize.ShloMosaic Cert.ReferenceIdeal Cert.ReferenceIdeal.Gen

variable {F : FTy → Type} [FloatOps F]

/-- The class words. -/
def cls (X : FVec F S16x4096x8 .f32) : IVec S16x4096 32 :=
  fptosi 32 (shapeCast S16x4096 (extractStridedSlice S16x4096x1 ![0, 0, 0] X slices_S16x4096x8_S16x4096x1_0_0_0)
    shapeCasts_S16x4096x1_S16x4096)

/-- The class words clipped to zero and one. -/
def clipped (X : FVec F S16x4096x8 .f32) : IVec S16x4096 32 :=
  minsi (broadcastInDim S16x4096 ![] bcast_S_S16x4096 (id (constantI S_ 32 1#32)))
    (maxsi (broadcastInDim S16x4096 ![] bcast_S_S16x4096 (id (constantI S_ 32 0#32))) (cls X))

/-- The positions that the weights are looked up at: a negative one counts from the end. -/
def position (X : FVec F S16x4096x8 .f32) : IVec S16x4096x1 32 :=
  broadcastInDim S16x4096x1 ![0, 1] bcast_S16x4096_S16x4096x1_0_1
    (select (cmpi .slt (clipped X) (broadcastInDim S16x4096 ![] bcast_S_S16x4096 (constantI S_ 32 0#32)))
      (addi (clipped X) (broadcastInDim S16x4096 ![] bcast_S_S16x4096 (constantI S_ 32 2#32))) (clipped X))

/-- Whether a position is zero or one. -/
def inside (p : IVec S16x4096x1 32) : IVec S16x4096 1 :=
  Host.reduce IntOp.andi
    (andi (cmpi .sge p (broadcastInDim S16x4096x1 ![] bcast_S_S16x4096x1 (constantI S_ 32 0#32)))
      (cmpi .sle p (broadcastInDim S16x4096x1 ![0, 1, 2] bcast_S1x1x1_S16x4096x1_0_1_2
        (broadcastInDim S1x1x1 ![2] bcast_S1_S1x1x1_2 (constantI S1 32 1#32)))))
    (constantI S_ 1 1#1) reducesTo_S16x4096x1_S16x4096_d2 h_S_

/-- The weights looked up at positions. -/
def lookup (W : FVec F S2 .f32) (p : IVec S16x4096x1 32) : FVec F S16x4096 .f32 :=
  Host.gather gather_S2_S16x4096x1_S16x4096_n_0_n_n_0_2_1 W p

/-- The class weights. -/
def weight (X : FVec F S16x4096x8 .f32) (W : FVec F S2 .f32) : FVec F S16x4096 .f32 :=
  select (inside (position X)) (lookup W (position X)) (broadcastInDim S16x4096 ![] bcast_S_S16x4096 (constant S_ .f32 0x7FC00000#32))

/-- How many of a point's entries are not zero. -/
def count (X : FVec F S16x4096x8 .f32) : IVec S16x4096 32 :=
  Host.reduce IntOp.addi
    (extui 32 (cmpf .une X (broadcastInDim S16x4096x8 ![] bcast_S_S16x4096x8 (constant S_ .f32 0x00000000#32))) natLt_1_32)
    (constantI S_ 32 0#32) reducesTo_S16x4096x8_S16x4096_d2 h_S_

/-- Which points are valid. -/
def valid (X : FVec F S16x4096x8 .f32) : IVec S16x4096 1 :=
  andi (cmpi .sle (cls X) (broadcastInDim S16x4096 ![] bcast_S_S16x4096 (constantI S_ 32 1#32)))
    (cmpi .ne (count X) (broadcastInDim S16x4096 ![] bcast_S_S16x4096 (constantI S_ 32 0#32)))

/-- The running minimum along the points. -/
def runningMin (x : FVec F S16x4096 .f32) : FVec F S16x4096 .f32 :=
  Host.reduceWindow FloatOps.minimumf ![1, 4096] ![1, 1] ![0, 4095] ![0, 0] x
    (broadcastInDim S_ ![] bcast_S_S_ (constant S_ .f32 0x7F800000#32))
    reduceWindows_S16x4096_S16x4096_w1s1p0_0_w4096s1p4095_0 h_S_

/-- The coefficient of a point: its weight times the running minimum of validity. -/
def coef (X : FVec F S16x4096x8 .f32) (W : FVec F S2 .f32) : FVec F S16x4096 .f32 :=
  mulf (weight X W) (runningMin (uitofp .f32 (valid X)))

/-- Every point's coordinates moved by every basis. -/
def shifted (X : FVec F S16x4096x8 .f32) (T : FVec F S64x7 .f32) : FVec F S16x4096x64x7 .f32 :=
  addf (broadcastInDim S16x4096x64x7 ![0, 1, 2, 3] bcast_S16x4096x1x7_S16x4096x64x7_0_1_2_3
      (broadcastInDim S16x4096x1x7 ![0, 1, 3] bcast_S16x4096x7_S16x4096x1x7_0_1_3
        (extractStridedSlice S16x4096x7 ![0, 0, 1] X slices_S16x4096x8_S16x4096x7_0_0_1)))
    (broadcastInDim S16x4096x64x7 ![0, 1, 2, 3] bcast_S1x1x64x7_S16x4096x64x7_0_1_2_3
      (broadcastInDim S1x1x64x7 ![2, 3] bcast_S64x7_S1x1x64x7_2_3 T))

/-- The sums of squares of the coordinates. -/
def squares (u : FVec F S16x4096x64x7 .f32) : FVec F S16x4096x64x1 .f32 :=
  broadcastInDim S16x4096x64x1 ![0, 1, 2] bcast_S16x4096x64_S16x4096x64x1_0_1_2
    (Host.reduceAdd (mulf u u) (constant S_ .f32 0x00000000#32) reducesTo_S16x4096x64x7_S16x4096x64_d3 h_S_)

/-- The coordinates in the ball. -/
def ball (u : FVec F S16x4096x64x7 .f32) : FVec F S16x4096x64x7 .f32 :=
  Host.divf u (broadcastInDim S16x4096x64x7 ![0, 1, 2, 3] bcast_S16x4096x64x1_S16x4096x64x7_0_1_2_3
    (addf (broadcastInDim S16x4096x64x1 ![] bcast_S_S16x4096x64x1 (constant S_ .f32 0x3F800000#32))
      (Host.sqrt (addf (broadcastInDim S16x4096x64x1 ![] bcast_S_S16x4096x64x1 (constant S_ .f32 0x3F800000#32)) (squares u)))))

/-- The norms, kept inside the clip bounds. -/
def norm (x : FVec F S16x4096x64x7 .f32) : FVec F S16x4096x64x1 .f32 :=
  minimumf (broadcastInDim S16x4096x64x1 ![] bcast_S_S16x4096x64x1 (id (constant S_ .f32 0x3F7FFFFE#32)))
    (maximumf (broadcastInDim S16x4096x64x1 ![] bcast_S_S16x4096x64x1 (id (constant S_ .f32 0x33D6BF95#32))) (Host.sqrt (squares x)))

/-- The tangent vectors at the origin. -/
def tangent (x : FVec F S16x4096x64x7 .f32) : FVec F S16x4096x64x7 .f32 :=
  Host.divf
    (mulf (broadcastInDim S16x4096x64x7 ![0, 1, 2, 3] bcast_S16x4096x64x1_S16x4096x64x7_0_1_2_3 (Host.atanh (norm x))) x)
    (broadcastInDim S16x4096x64x7 ![0, 1, 2, 3] bcast_S16x4096x64x1_S16x4096x64x7_0_1_2_3 (norm x))

/-- The weighted sums over the points. -/
def sums (X : FVec F S16x4096x8 .f32) (T : FVec F S64x7 .f32) (W : FVec F S2 .f32) : FVec F S16x64x7 .f32 :=
  Host.reduceAdd
    (mulf (broadcastInDim S16x4096x64x7 ![0, 1, 2, 3] bcast_S16x4096x1x1_S16x4096x64x7_0_1_2_3
        (broadcastInDim S16x4096x1x1 ![0, 1] bcast_S16x4096_S16x4096x1x1_0_1 (coef X W)))
      (tangent (ball (shifted X T))))
    (constant S_ .f32 0x00000000#32) reducesTo_S16x4096x64x7_S16x64x7_d1 h_S_

/-- The running sums along the bases. -/
def running (S : FVec F S16x64x7 .f32) : FVec F S16x64x7 .f32 :=
  Host.reduceWindowAdd ![1, 64, 1] ![1, 1, 1] ![0, 63, 0] ![0, 0, 0] S
    (broadcastInDim S_ ![] bcast_S_S_ (constant S_ .f32 0x00000000#32))
    reduceWindows_S16x64x7_S16x64x7_w1s1p0_0_w64s1p63_0_w1s1p0_0 h_S_

/-- The sums of squares along the coordinates of a basis. -/
def energy (y : FVec F S16x64x7 .f32) : FVec F S16x64x1 .f32 :=
  broadcastInDim S16x64x1 ![0, 1] bcast_S16x64_S16x64x1_0_1
    (Host.reduceAdd (mulf y y) (constant S_ .f32 0x00000000#32) reducesTo_S16x64x7_S16x64_d2 h_S_)

/-- Norms kept above the lower clip bound. -/
def length (y : FVec F S16x64x7 .f32) : FVec F S16x64x1 .f32 :=
  maximumf (Host.sqrt (energy y)) (broadcastInDim S16x64x1 ![] bcast_S_S16x64x1 (constant S_ .f32 0x33D6BF95#32))

/-- From tangent vectors back to the ball. -/
def onBall (y : FVec F S16x64x7 .f32) : FVec F S16x64x7 .f32 :=
  Host.divf (mulf (broadcastInDim S16x64x7 ![0, 1, 2] bcast_S16x64x1_S16x64x7_0_1_2 (Host.tanh (length y))) y)
    (broadcastInDim S16x64x7 ![0, 1, 2] bcast_S16x64x1_S16x64x7_0_1_2 (length y))

/-- From the ball to the result. -/
def spread (z : FVec F S16x64x7 .f32) : FVec F S16x448 .f32 :=
  shapeCast S16x448
    (Host.divf (mulf (broadcastInDim S16x64x7 ![] bcast_S_S16x64x7 (constant S_ .f32 0x40000000#32)) z)
      (broadcastInDim S16x64x7 ![0, 1, 2] bcast_S16x64x1_S16x64x7_0_1_2
        (addf (subf (broadcastInDim S16x64x1 ![] bcast_S_S16x64x1 (constant S_ .f32 0x3F800000#32)) (energy z))
          (broadcastInDim S16x64x1 ![] bcast_S_S16x64x1 (constant S_ .f32 0x33D6BF95#32)))))
    shapeCasts_S16x64x7_S16x448

/-- The last steps: from the sums over the points to the result. -/
def tail (S : FVec F S16x64x7 .f32) : FVec F S16x448 .f32 := spread (onBall (running S))

open Cert.ReferenceIdeal.Value StableHlo TcCoe Idealize.SL.Sem

/-- The reference's running sums are those of the sums over the points. -/
theorem running_eq (V0 : Valuation τ sig (Elt F)) :
    res_main_v44 V0 = running (sums (V0 (Proc.devRef .tc main_arg0)) (V0 (Proc.devRef .tc main_arg1))
      (V0 (Proc.devRef .tc main_arg2))) := rfl

/-- The reference's vectors on the ball are those of its running sums. -/
theorem onBall_eq (V0 : Valuation τ sig (Elt F)) : res_main_v55 V0 = onBall (res_main_v44 V0) := rfl

/-- The reference leaves the last steps of its sums in its result, and its arguments as they were. -/
theorem run_eq (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = tail (sums (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run m ρ)
  rw [onBall_eq, running_eq]
  rfl

end Cert.Proof.Ref

end
-- ==== Proof.RefPoint.lean ====
/- The reference's sums over the points, read at a batch, a basis and a coordinate: the weighted sum of the plain
   statement. -/
module

public import proofs.«01_k».proof.Proof.RefTerms
public import proofs.«01_k».proof.Proof.Words
public import Idealize.ShloMosaic.Lib.ValueIdxCore

@[expose] public section

set_option maxRecDepth 16384

noncomputable section

namespace Cert.Proof.Ref

open Idealize.ShloMosaic Cert.ReferenceIdeal Cert.ReferenceIdeal.Gen
open scoped BigOperators

variable (X : FVec Ideal S16x4096x8 .f32) (T : FVec Ideal S64x7 .f32) (W : FVec Ideal S2 .f32)

/-- A point's moved coordinate. -/
theorem shifted_apply (b : Fin 16) (n : Fin 4096) (k : Fin 64) (i : Fin 7) :
    shifted X T (ix4 b n k i) = (X (ix3 b n i.succ) : EReal) + T (ix2 k i) := by
  pointwise [shifted]
  rw [show (⟨1 + i.val, by have := i.isLt; omega⟩ : Fin 8) = i.succ from Fin.ext (Nat.add_comm 1 i.val)]

/-- A point's sum of squares. -/
theorem squares_apply (u : FVec Ideal S16x4096x64x7 .f32) (b : Fin 16) (n : Fin 4096) (k : Fin 64) (l : Fin 1) :
    squares u (ix4 b n k l) = Spec.squares fun i => u (ix4 b n k i) := by
  pointwise [squares, Spec.squares]

/-- The ball coordinates. -/
theorem ball_apply (u : FVec Ideal S16x4096x64x7 .f32) (b : Fin 16) (n : Fin 4096) (k : Fin 64) (i : Fin 7) :
    ball u (ix4 b n k i) = Spec.ball (fun i => u (ix4 b n k i)) i := by
  pointwise [ball, Spec.ball]
  rw [squares_apply, add_comm 1 (Spec.squares _), add_comm 1 (Ideal.sqrt _)]

/-- The clipped norm. -/
theorem norm_apply (u : FVec Ideal S16x4096x64x7 .f32) (b : Fin 16) (n : Fin 4096) (k : Fin 64) (l : Fin 1) :
    norm u (ix4 b n k l) = Spec.norm fun i => u (ix4 b n k i) := by
  pointwise [norm, Spec.norm]
  rw [squares_apply]
  rfl

/-- The tangent vector. -/
theorem tangent_apply (u : FVec Ideal S16x4096x64x7 .f32) (b : Fin 16) (n : Fin 4096) (k : Fin 64) (i : Fin 7) :
    tangent u (ix4 b n k i) = Spec.tangent (fun i => u (ix4 b n k i)) i := by
  pointwise [tangent, Spec.tangent]
  rw [norm_apply]

/-- The class words. -/
theorem cls_apply (b : Fin 16) (n : Fin 4096) : cls X (ix2 b n) = Spec.cls fun r => X (ix3 b n r) := by
  pointwise [cls, Spec.cls]
  rfl

/-- The clipped class words. -/
theorem clipped_apply (b : Fin 16) (n : Fin 4096) :
    clipped X (ix2 b n) = if 1 ≤ (Spec.cls fun r => X (ix3 b n r)).toInt then 1#32 else 0#32 := by
  rw [← Scalars.clip_eq, ← cls_apply]
  pointwise [clipped]
  rfl

/-- The lookup positions. -/
theorem position_apply (b : Fin 16) (n : Fin 4096) (l : Fin 1) :
    position X (ix3 b n l) = if 1 ≤ (Spec.cls fun r => X (ix3 b n r)).toInt then 1#32 else 0#32 := by
  pointwise [position]
  rw [clipped_apply]
  split <;> rfl

/-- The count at a point is not zero exactly when some entry is not. -/
theorem count_apply (b : Fin 16) (n : Fin 4096) :
    count X (ix2 b n) ≠ 0#32 ↔ ∃ r, (X (ix3 b n r) : EReal) ≠ 0 := by
  pointwise [count]
  refine (Words.fold_addi_ne _ _ (fun i => Words.toNat_wide_le _) (by decide)).trans ?_
  refine ⟨fun ⟨r, _, h⟩ => ⟨r, of_decide_eq_true ((Words.wide_ne _).1 h)⟩,
    fun ⟨r, h⟩ => ⟨r, Finset.mem_univ _, (Words.wide_ne _).2 (decide_eq_true h)⟩⟩

/-- A point is valid. -/
theorem valid_apply (b : Fin 16) (n : Fin 4096) :
    valid X (ix2 b n) = 1#1 ↔ Spec.Valid fun r => X (ix3 b n r) := by
  rw [Spec.Valid, ← count_apply, ← cls_apply]
  pointwise [valid]
  rw [Words.andi_eq, IntOp.cmpi, IntOp.cmpi, Words.ofBool_eq, Words.ofBool_eq, bne_iff_ne, BitVec.sle_iff_toInt_le]
  rfl

/-- A position that is zero or one is inside. -/
theorem inside_apply (p : IVec S16x4096x1 32) (b : Fin 16) (n : Fin 4096) (h : p (ix3 b n 0) = 0#32 ∨ p (ix3 b n 0) = 1#32) :
    inside p (ix2 b n) = 1#1 := by
  pointwise [inside]
  rw [show (Finset.univ : Finset (Fin 1)) = {0} from rfl, Finset.fold_singleton]
  rcases h with h | h <;> rw [h] <;> decide

/-- The weight looked up at a position that is zero or one. -/
theorem lookup_apply (p : IVec S16x4096x1 32) (b : Fin 16) (n : Fin 4096) :
    lookup W p (ix2 b n) = W (ix1 ⟨min (p (ix3 b n 0)).toInt.toNat (2 - 1), by omega⟩) := by
  refine (ValueIdx.gather_take_apply (by omega) gather_S2_S16x4096x1_S16x4096_n_0_n_n_0_2_1_wf W p (ix2 b n)).trans ?_
  have e : ValueIdx.takeIdx (ix2 b n) = ix3 b n 0 := by
    funext a; fin_cases a <;> rfl
  simp only [e]
  rfl

/-- The class weight of a point. -/
theorem weight_apply (b : Fin 16) (n : Fin 4096) :
    weight X W (ix2 b n) = Spec.weight (Spec.cls fun r => X (ix3 b n r)) (W (ix1 0)) (W (ix1 1)) := by
  have hp := position_apply X b n 0
  have hi := inside_apply (position X) b n (by rw [hp]; split <;> simp)
  pointwise [weight]
  rw [hi, lookup_apply, Spec.weight]
  simp only [hp]
  split <;> rfl

/-- What the running minimum takes in at a window position: the entry that many places along, or the starting value
    where the position lies before the first point. -/
def seen (x : FVec Ideal S16x4096 .f32) (b : Fin 16) (n : Fin 4096) (q : (⟨2, ![1, 4096]⟩ : Shape).Idx) : EReal :=
  if h : 4095 ≤ n.val + (q 1).val then x (ix2 b ⟨n.val + (q 1).val - 4095, by have := n.isLt; have : (q 1).val < 4096 := (q 1).isLt; omega⟩)
  else ⊤

/-- A minimum over the window is at least a bound exactly when what it takes in at every position is. -/
theorem le_runningMin_seen (x : FVec Ideal S16x4096 .f32) (b : Fin 16) (n : Fin 4096) (z : EReal) :
    z ≤ runningMin x (ix2 b n) ↔ ∀ q, z ≤ seen x b n q := by
  have htop : (broadcastInDim S_ ![] bcast_S_S_ (constant (F := Ideal) S_ .f32 0x7F800000#32) (Shape.Idx.first h_S_) : EReal) = ⊤ := by
    show Ideal.ofBits .f32 0x7F800000#32 = ⊤
    have h1 : (0x7F800000#32 : BitVec 32).extractLsb' 23 8 = 255#8 := by decide
    have h2 : (0x7F800000#32 : BitVec 32).extractLsb' 0 23 = 0#23 := by decide
    have h3 : (0x7F800000#32 : BitVec 32).extractLsb' 31 1 = 0#1 := by decide
    simp only [Ideal.ofBits, Ideal.ieee, h1, h2, h3]
    norm_num
  unfold runningMin Host.reduceWindow
  simp only []
  refine (Scalars.le_foldl_min _ z _ _).trans ?_
  rw [htop]
  simp only [le_top, true_and, List.mem_finRange, forall_const]
  refine ((⟨2, ![1, 4096]⟩ : Shape).rowMajor.symm.forall_congr fun w => ?_)
  refine iff_of_eq (congrArg (z ≤ ·) ?_)
  have hq : ((⟨2, ![1, 4096]⟩ : Shape).rowMajor.symm w 0).val < 1 := ((⟨2, ![1, 4096]⟩ : Shape).rowMajor.symm w 0).isLt
  have hq1 : ((⟨2, ![1, 4096]⟩ : Shape).rowMajor.symm w 1).val < 4096 := ((⟨2, ![1, 4096]⟩ : Shape).rowMajor.symm w 1).isLt
  have hb := b.isLt
  have hn := n.isLt
  unfold seen
  split
  · next hin =>
    have h1 : 4095 ≤ n.val * 1 + ((⟨2, ![1, 4096]⟩ : Shape).rowMajor.symm w 1).val := (hin 1).1
    rw [dif_pos (by omega)]
    refine congrArg x ?_
    funext a
    fin_cases a
    · exact Fin.ext (by show b.val * 1 + ((⟨2, ![1, 4096]⟩ : Shape).rowMajor.symm w 0).val - 0 = b.val; omega)
    · exact Fin.ext (by
        show n.val * 1 + ((⟨2, ![1, 4096]⟩ : Shape).rowMajor.symm w 1).val - 4095
          = n.val + ((⟨2, ![1, 4096]⟩ : Shape).rowMajor.symm w 1).val - 4095
        omega)
  · next hin =>
    rw [dif_neg]
    intro h
    refine hin fun a => ?_
    fin_cases a
    · show 0 ≤ b.val * 1 + ((⟨2, ![1, 4096]⟩ : Shape).rowMajor.symm w 0).val
        ∧ b.val * 1 + ((⟨2, ![1, 4096]⟩ : Shape).rowMajor.symm w 0).val - 0 < 16
      omega
    · show 4095 ≤ n.val * 1 + ((⟨2, ![1, 4096]⟩ : Shape).rowMajor.symm w 1).val
        ∧ n.val * 1 + ((⟨2, ![1, 4096]⟩ : Shape).rowMajor.symm w 1).val - 4095 < 4096
      omega

/-- The running minimum is at least a bound exactly when every entry up to the point is. -/
theorem le_runningMin (x : FVec Ideal S16x4096 .f32) (b : Fin 16) (n : Fin 4096) (z : EReal) :
    z ≤ runningMin x (ix2 b n) ↔ ∀ k : Fin 4096, k ≤ n → z ≤ x (ix2 b k) := by
  have hn := n.isLt
  rw [le_runningMin_seen]
  constructor
  · intro h k hk
    have hkn : k.val ≤ n.val := hk
    have e : seen x b n (ix2 0 ⟨k.val + 4095 - n.val, by omega⟩) = x (ix2 b k) := by
      have hc : 4095 ≤ n.val + (k.val + 4095 - n.val) := by omega
      refine (dif_pos hc).trans (congrArg (fun l => x (ix2 b l)) (Fin.ext ?_))
      show n.val + (k.val + 4095 - n.val) - 4095 = k.val
      omega
    exact e ▸ h _
  · intro h q
    have hq : (q 1).val < 4096 := (q 1).isLt
    unfold seen
    split
    · refine h _ ?_
      show n.val + (q 1).val - 4095 ≤ n.val
      omega
    · exact le_top

/-- The running minimum of validity is one up to the last point before an invalid one, and zero from that one on. -/
theorem runningMin_apply (v : IVec S16x4096 1) (b : Fin 16) (n : Fin 4096) :
    runningMin (uitofp (F := Ideal) .f32 v) (ix2 b n) = Spec.upTo (fun k => v (ix2 b k) = 1#1) n := by
  have hb : ∀ k : Fin 4096, (uitofp (F := Ideal) .f32 v (ix2 b k) : EReal) = if v (ix2 b k) = 1#1 then 1 else 0 := fun k => by
    show ((((v (ix2 b k)).toNat : ℝ)) : EReal) = _
    generalize v (ix2 b k) = c
    rcases (by revert c; decide : c = 0#1 ∨ c = 1#1) with rfl | rfl <;> simp
  refine eq_of_forall_le_iff fun z => ?_
  rw [le_runningMin, Spec.upTo]
  simp only [hb]
  by_cases hp : ∀ k ≤ n, v (ix2 b k) = 1#1
  · rw [if_pos hp]
    refine ⟨fun h => ?_, fun h k hk => ?_⟩
    · simpa [hp n le_rfl] using h n le_rfl
    · rw [if_pos (hp k hk)]; exact h
  · rw [if_neg hp]
    refine ⟨fun h => ?_, fun h k hk => ?_⟩
    · push Not at hp
      obtain ⟨k, hk, hv⟩ := hp
      simpa [hv] using h k hk
    · refine h.trans ?_
      split
      · exact zero_le_one
      · exact le_rfl

/-- The coefficient of a point. -/
theorem coef_apply (b : Fin 16) (n : Fin 4096) :
    coef X W (ix2 b n)
      = Spec.weight (Spec.cls fun r => X (ix3 b n r)) (W (ix1 0)) (W (ix1 1))
        * Spec.upTo (fun k => Spec.Valid fun r => X (ix3 b k r)) n := by
  have h := runningMin_apply (valid X) b n
  simp only [valid_apply] at h
  rw [← h, ← weight_apply]
  rfl

/-- The sums over the points at a batch, a basis and a coordinate: the weighted sum up to the first invalid point. -/
theorem sums_apply (b : Fin 16) (k : Fin 64) (i : Fin 7) :
    sums X T W (ix3 b k i) = Spec.total (fun n r => X (ix3 b n r)) (fun i => T (ix2 k i)) (W (ix1 0)) (W (ix1 1)) i := by
  pointwise [sums, Spec.total, Spec.move]
  refine Finset.sum_congr rfl fun n _ => ?_
  rw [tangent_apply, coef_apply]
  simp only [ball_apply, shifted_apply]

end Cert.Proof.Ref

end
-- ==== Proof.Blocks.lean ====
/- The region's result array: every grid point's block holds the sums over the points of its four batches, so the whole
   array holds the sums of every batch. -/
module

public import proofs.«01_k».proof.Proof.BodyRows
public import proofs.«01_k».proof.Proof.BodyPoint
public import proofs.«01_k».proof.Proof.RefPoint
public import Idealize.ShloMosaic.Lib.Pipeline.ValueKit
public import Idealize.ShloMosaic.Lib.Claim

@[expose] public section

set_option maxRecDepth 16384

noncomputable section

namespace Cert.Proof.Blocks

open Idealize.ShloMosaic Idealize.ShloMosaic.TcCoe Cert.KernelIdeal Cert.KernelIdeal.Gen Cert.Proof.Body

variable (m : (ℓ : Loc nD τ sig) → Buf (Elt Ideal) ℓ)

/-- Which block of its array each window holds at a grid point: the points' and the result's blocks move along the
    batches, the others stay. -/
theorem idx : ∀ t : Fin cfg0.N, win0_0.index t = ![t.val, 0, 0] ∧ win0_1.index t = ![0, 0] ∧ win0_2.index t = ![0, 0]
    ∧ win0_3.index t = ![t.val, 0, 0] ∧ t.val < 4 :=
  (by decide +kernel : ∀ t : Fin grid0.N, _)

/-- One row of the body over blocks that hold a batch's points, the bases and the weights is that batch's sums. -/
theorem row_eq (X : FVec Ideal S16x4096x8 .f32) (T : FVec Ideal S64x7 .f32) (W : FVec Ideal S2 .f32)
    (p : FVec Ideal S1x8x4096 .f32) (q : FVec Ideal S7x64 .f32) (a b : Vec Ideal S1x1 .f32) (j : Fin 16)
    (hp : ∀ (n : Fin 4096) (r : Fin 8), p (ix3 0 r n) = X (ix3 j n r)) (hq : ∀ (k : Fin 64) (i : Fin 7), q (ix2 i k) = T (ix2 k i))
    (ha : a (ix2 0 0) = W (ix1 0)) (hb : b (ix2 0 0) = W (ix1 1)) (k : Fin 64) (i : Fin 7) :
    row (rowOf p) (bases q) a b (ix3 0 k i) = Cert.Proof.Ref.sums X T W (ix3 j k i) := by
  have h1 : ∀ (n : Fin 4096) (r : Fin 8), rowOf p (ix2 r n) = X (ix3 j n r) := fun n r => by
    rw [← hp]; pointwise [rowOf]
  have h2 : ∀ (k : Fin 64) (i : Fin 7), bases q (ix2 k i) = T (ix2 k i) := fun k i => by
    rw [← hq]; pointwise [bases]
  rw [row_apply, Cert.Proof.Ref.sums_apply, ha, hb]
  simp only [h1, h2]

/-- The sums over the points of the launch's arrays. -/
abbrev S (c : Dev nD) : FVec Ideal S16x64x7 .f32 :=
  Cert.Proof.Ref.sums (F := Ideal) (m ((c : Thread nD τ).loc main_arg0)) (m ((c : Thread nD τ).loc main_arg1))
    (m ((c : Thread nD τ).loc main_arg2))

/-- The points' array as the region finds it: the launch's, each batch transposed. -/
theorem entry0 (c : Dev nD) (b : Fin 16) (r : Fin 8) (n : Fin 4096) :
    (V m c main_v0 : FVec Ideal S16x8x4096 .f32) (ix3 b r n) = (m ((c : Thread nD τ).loc main_arg0) : FVec Ideal S16x4096x8 .f32) (ix3 b n r) := by
  have e : (V m c main_v0 : FVec Ideal S16x8x4096 .f32)
      = transpose S16x8x4096 [0, 2, 1] (m ((c : Thread nD τ).loc main_arg0) : FVec Ideal S16x4096x8 .f32) transposes_S16x4096x8_S16x8x4096_0_2_1 := by
    dsimp only [V, V0]
    simp only [hostOps0, List.flatten_cons, List.flatten_nil, List.append_nil]
    after_results_simp
  rw [e]
  pointwise

/-- The bases' array as the region finds it: the launch's, transposed. -/
theorem entry1 (c : Dev nD) (i : Fin 7) (k : Fin 64) :
    (V m c main_v1 : FVec Ideal S7x64 .f32) (ix2 i k) = (m ((c : Thread nD τ).loc main_arg1) : FVec Ideal S64x7 .f32) (ix2 k i) := by
  have e : (V m c main_v1 : FVec Ideal S7x64 .f32)
      = transpose S7x64 [1, 0] (m ((c : Thread nD τ).loc main_arg1) : FVec Ideal S64x7 .f32) transposes_S64x7_S7x64_1_0 := by
    dsimp only [V, V0]
    simp only [hostOps0, List.flatten_cons, List.flatten_nil, List.append_nil]
    after_results_simp
  rw [e]
  pointwise

/-- The weights' array as the region finds it: the launch's, as one row. -/
theorem entry2 (c : Dev nD) (e : Fin 2) :
    (V m c main_v2 : FVec Ideal S1x2 .f32) (ix2 0 e) = (m ((c : Thread nD τ).loc main_arg2) : FVec Ideal S2 .f32) (ix1 e) := by
  have h : (V m c main_v2 : FVec Ideal S1x2 .f32)
      = shapeCast S1x2 (m ((c : Thread nD τ).loc main_arg2) : FVec Ideal S2 .f32) shapeCasts_S2_S1x2 := by
    dsimp only [V, V0]
    simp only [hostOps0, List.flatten_cons, List.flatten_nil, List.append_nil]
    after_results_simp
    rfl
  rw [h]
  pointwise

/-- A grid point's block of the points' array: four batches. -/
theorem block0 (c : Dev nD) (t : Fin cfg0.N) (e : Fin 4) (r : Fin 8) (n : Fin 4096) (b : Fin 16) (hb : b.val = 4 * t.val + e.val) :
    (iblk m c 0 t : Vec Ideal S4x8x4096 .f32) (ix3 e r n) = (m ((c : Thread nD τ).loc main_arg0) : FVec Ideal S16x4096x8 .f32) (ix3 b n r) := by
  refine Eq.trans ?_ (entry0 m c b r n)
  blk_ext [iblk, idx t]

/-- Its block of the bases' array: the whole. -/
theorem block1 (c : Dev nD) (t : Fin cfg0.N) (i : Fin 7) (k : Fin 64) :
    (iblk m c 1 t : Vec Ideal S7x64 .f32) (ix2 i k) = (m ((c : Thread nD τ).loc main_arg1) : FVec Ideal S64x7 .f32) (ix2 k i) := by
  refine Eq.trans ?_ (entry1 m c i k)
  blk_ext [iblk, idx t]

/-- Its block of the weights' array: the whole. -/
theorem block2 (c : Dev nD) (t : Fin cfg0.N) (e : Fin 2) :
    (iblk m c 2 t : Vec Ideal S1x2 .f32) (ix2 0 e) = (m ((c : Thread nD τ).loc main_arg2) : FVec Ideal S2 .f32) (ix1 e) := by
  refine Eq.trans ?_ (entry2 m c e)
  blk_ext [iblk, idx t]

/-- What the body leaves for one batch of a grid point, at a place of it, is that batch's sums at that place. -/
theorem piece (c : Dev nD) (t : Fin cfg0.N) (e : Fin 4) (p : FVec Ideal S1x8x4096 .f32)
    (hp : ∀ (r : Fin 8) (n : Fin 4096), p (ix3 0 r n) = (iblk m c 0 t : Vec Ideal S4x8x4096 .f32) (ix3 e r n))
    (x : S1x64x7.Idx) (j : Fin 16) (hj : j.val = 4 * t.val + e.val) :
    row (rowOf p) (bases (View.ld (iblk m c 1 t) r0_0)) (View.ld (iblk m c 2 t) r0_2) (View.ld (iblk m c 2 t) r0_3) x
      = S m c (ix3 j (x 1) (x 2)) := by
  have hq : ∀ (k : Fin 64) (i : Fin 7), (View.ld (iblk m c 1 t) r0_0 : FVec Ideal S7x64 .f32) (ix2 i k)
      = (m ((c : Thread nD τ).loc main_arg1) : FVec Ideal S64x7 .f32) (ix2 k i) := fun k i =>
    (View.ld_unit_apply_of _ _ _ _ _ (ix2 i k) fun d => by fin_cases d <;> simp).trans (block1 m c t i k)
  have ha : (View.ld (iblk m c 2 t) r0_2 : FVec Ideal S1x1 .f32) (ix2 0 0)
      = (m ((c : Thread nD τ).loc main_arg2) : FVec Ideal S2 .f32) (ix1 0) :=
    (View.ld_unit_apply_of _ _ _ _ _ (ix2 0 0) fun d => by fin_cases d <;> rfl).trans (block2 m c t 0)
  have hb : (View.ld (iblk m c 2 t) r0_3 : FVec Ideal S1x1 .f32) (ix2 0 0)
      = (m ((c : Thread nD τ).loc main_arg2) : FVec Ideal S2 .f32) (ix1 1) :=
    (View.ld_unit_apply_of _ _ _ _ _ (ix2 0 1) fun d => by fin_cases d <;> rfl).trans (block2 m c t 1)
  have hx : x = ix3 0 (x 1) (x 2) := by
    funext d; fin_cases d
    · exact Subsingleton.elim (α := Fin 1) _ _
    · rfl
    · rfl
  generalize (View.ld (iblk m c 1 t) r0_0 : FVec Ideal S7x64 .f32) = q at hq ⊢
  generalize (View.ld (iblk m c 2 t) r0_2 : FVec Ideal S1x1 .f32) = a at ha ⊢
  generalize (View.ld (iblk m c 2 t) r0_3 : FVec Ideal S1x1 .f32) = b at hb ⊢
  have hp' : ∀ (n : Fin 4096) (r : Fin 8), p (ix3 0 r n) = (m ((c : Thread nD τ).loc main_arg0) : FVec Ideal S16x4096x8 .f32) (ix3 j n r) :=
    fun n r => (hp r n).trans (block0 m c t e r n j hj)
  have hs := row_eq (m ((c : Thread nD τ).loc main_arg0)) (m ((c : Thread nD τ).loc main_arg1)) (m ((c : Thread nD τ).loc main_arg2))
    p q a b j hp' hq ha hb (x 1) (x 2)
  rw [hx]
  exact hs

/-- The result array after the region: the sums over the points. -/
theorem final (c : Dev nD) : (dats m 0 c).arrAt 3 (cfgs 0).N = S m c := by
  refine (dats m 0 c).arrAt_eq_of_covers 3 _ (by decide +kernel) fun t hf y => ?_
  have ht : t.val < 4 := (idx t).2.2.2.2
  blk_simp
  rw [after0_3, out_eq]
  canon_tiles x h
  · refine (piece m c t 3 _ (fun r n => ?_) x ⟨4 * t.val + 3, by omega⟩ rfl).trans ?_
    · exact View.ld_unit_apply_of _ _ _ _ _ (ix3 3 r n) fun d => by fin_cases d <;> simp
    · generalize S m c = R
      blk_ext [idx t]
  · refine (piece m c t 2 _ (fun r n => ?_) x ⟨4 * t.val + 2, by omega⟩ rfl).trans ?_
    · exact View.ld_unit_apply_of _ _ _ _ _ (ix3 2 r n) fun d => by fin_cases d <;> simp
    · generalize S m c = R
      blk_ext [idx t]
  · refine (piece m c t 1 _ (fun r n => ?_) x ⟨4 * t.val + 1, by omega⟩ rfl).trans ?_
    · exact View.ld_unit_apply_of _ _ _ _ _ (ix3 1 r n) fun d => by fin_cases d <;> simp
    · generalize S m c = R
      blk_ext [idx t]
  · refine (piece m c t 0 _ (fun r n => ?_) x ⟨4 * t.val + 0, by omega⟩ rfl).trans ?_
    · exact View.ld_unit_apply_of _ _ _ _ _ (ix3 0 r n) fun d => by fin_cases d <;> simp
    · generalize S m c = R
      blk_ext [idx t]

end Cert.Proof.Blocks

end
-- ==== Proof.Tail.lean ====
/- The lines after the region: from the region's result array they compute what the reference computes from its sums. -/
module

public import proofs.«01_k».proof.Proof.Gen.KernelIdeal.Frame
public import proofs.«01_k».proof.Proof.RefTerms
public import Idealize.ShloMosaic.Lib.StableHlo.Run

@[expose] public section

set_option maxRecDepth 16384

noncomputable section

namespace Cert.Proof.Tail

open Idealize.ShloMosaic Idealize.ShloMosaic.TcCoe Idealize.ShloMosaic.StableHlo Cert.KernelIdeal Cert.KernelIdeal.Gen

variable {F : FTy → Type} [FloatOps F]

/-- The first lines leave the running sums along the bases. -/
theorem first_eq (V1 : Valuation τ sig (Elt F)) :
    (after hostOps1 V1 (Proc.devRef .tc main_v4) : FVec F S16x64x7 .f32)
      = Cert.Proof.Ref.running (F := F) (V1 (Proc.devRef .tc main_v3)) := by
  simp only [hostOps1, TRef.binary, TRef.nullary, TRef.unary, TRef.toBuf, TRef.ofBuf, cast_eq]
  after_results_simp
  rfl

/-- The others leave the last steps from the running sums to the result. -/
theorem second_eq (V1 : Valuation τ sig (Elt F)) :
    (after hostOps1_1 V1 (Proc.devRef .tc main_v27) : FVec F S16x448 .f32)
      = Cert.Proof.Ref.spread (F := F) (Cert.Proof.Ref.onBall (F := F) (V1 (Proc.devRef .tc main_v4))) := by
  simp only [hostOps1_1, TRef.binary, TRef.nullary, TRef.unary, TRef.toBuf, TRef.ofBuf, cast_eq]
  after_results_simp
  rfl

/-- All of them leave the reference's last steps of the region's result array. -/
theorem tail_eq (V1 : Valuation τ sig (Elt F)) :
    (after [hostOps1, hostOps1_1].flatten V1 (Proc.devRef .tc main_v27) : FVec F S16x448 .f32)
      = Cert.Proof.Ref.tail (F := F) (V1 (Proc.devRef .tc main_v3)) :=
  (second_eq (after hostOps1 V1)).trans
    (congrArg (fun y => Cert.Proof.Ref.spread (F := F) (Cert.Proof.Ref.onBall (F := F) y)) (first_eq V1))

end Cert.Proof.Tail

end
-- ==== Proof.KernelRun.lean ====
/- What a run of the kernel leaves, and that it is what a run of the reference leaves. -/
module

public import proofs.«01_k».proof.Proof.Blocks
public import proofs.«01_k».proof.Proof.Tail
public import proofs.«01_k».proof.Defs

@[expose] public section

set_option maxRecDepth 16384

noncomputable section

namespace Cert.Proof.KernelRun

open Idealize.ShloMosaic Idealize.ShloMosaic.TcCoe Idealize.SL.Sem Cert.KernelIdeal Cert.KernelIdeal.Gen Cert.Proof.Blocks

variable (m : (ℓ : Loc nD τ sig) → Buf (Elt Ideal) ℓ)

/-- After the lines that follow the region the result holds the last steps of the sums over the points. -/
theorem result_eq (c : Dev nD) :
    (Pipeline.afterTail₀ cfgs (dats m) 0 (V0 m) [hostOps1, hostOps1_1] c main_v27 : FVec Ideal S16x448 .f32)
      = Cert.Proof.Ref.tail (F := Ideal) (S m c) := by
  refine (Cert.Proof.Tail.tail_eq _).trans (congrArg (Cert.Proof.Ref.tail (F := Ideal)) ?_)
  exact (Pipeline.withArrays_arr (cfgs 0).spec (by decide) c _ _ 3).trans (final m c)

/-- The kernel leaves the last steps of the sums over the points in its result, and its arguments as they were. -/
theorem run_eq (ρ : Dev nD → PrngReg) :
    θ_run defs (onTc (τ := τ) (main (F := Ideal))) ⟨m, fun _ => 0, ρ⟩ fun r => ∀ c : Dev nD,
      r.2.mem ((c.tc : Thread nD τ).loc main_v27) = Cert.Proof.Ref.tail (F := Ideal) (S m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · exact ((h c).2 main_v27 (Pipeline.mem_restRefs_of main_v27 (by decide) (by decide))).trans (result_eq m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

/-- The kernel and the reference, from the same arguments, leave the same result. -/
theorem algebraic : Cert.algebraic_KernelIdeal_ReferenceIdeal := by
  intro m g m' g' _ hagree
  refine ⟨fun c => Cert.Proof.Ref.tail (F := Ideal) (S m c), run_eq m g, ?_⟩
  refine (θ_run _ _ _).mono (fun r h c => ⟨(h c).1.trans ?_, (h c).2⟩) (Cert.Proof.Ref.run_eq m' g')
  obtain ⟨h0, h1, h2⟩ := hagree c
  rw [h0, h1, h2]

end Cert.Proof.KernelRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- The reference runs, leaves its arguments as they were and every counter at zero: it has no semaphore. -/
theorem reference_frame : Cert.quiescent_ReferenceIdeal := fun m ρ _ =>
  (θ_run _ _ _).mono (fun _ h => ⟨fun c => (h c).2, sem_eq_zero_of_no_sems (by decide) _⟩) (Cert.Proof.Ref.run_eq m ρ)

/-- The three programs' frames, that the kernel read over the reals is the kernel, and that it and the reference leave
    the same result. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    Cert.Proof.KernelRun.algebraic⟩

end Cert.Proof

end
